-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S3x32x1024 : Shape := ⟨3, ![3, 32, 1024]⟩
abbrev S128x1024 : Shape := ⟨2, ![128, 1024]⟩
abbrev S3x128x1024 : Shape := ⟨3, ![3, 128, 1024]⟩
abbrev S4x128x1024 : Shape := ⟨3, ![4, 128, 1024]⟩
abbrev S3 : Shape := ⟨1, ![3]⟩
abbrev S4 : Shape := ⟨1, ![4]⟩
abbrev S_ : Shape := ⟨0, ![]⟩
abbrev S1x32x1024 : Shape := ⟨3, ![1, 32, 1024]⟩
abbrev S32x1024 : Shape := ⟨2, ![32, 1024]⟩
abbrev S1 : Shape := ⟨1, ![1]⟩
abbrev S32 : Shape := ⟨1, ![32]⟩
abbrev S32x1 : Shape := ⟨2, ![32, 1]⟩
abbrev S1x1024 : Shape := ⟨2, ![1, 1024]⟩
abbrev S1x128x1024 : Shape := ⟨3, ![1, 128, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024, .bf16⟩
  | .local _ .vmem, ⟨3, _⟩ => ⟨S1024x1024, .f32⟩
  | .local _ .vmem, ⟨4, _⟩ => ⟨S3x32x1024, .bf16⟩
  | .local _ .vmem, ⟨5, _⟩ => ⟨S3x32x1024, .bf16⟩
  | .local _ .vmem, ⟨6, _⟩ => ⟨S128x1024, .bf16⟩
  | .local _ .vmem, ⟨7, _⟩ => ⟨S3x128x1024, .bf16⟩
  | .local _ .vmem, ⟨8, _⟩ => ⟨S4x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v25 : BitVec 32 := Scalar.muli v2 c16_i32_10
  let v26 : BitVec 32 := Scalar.addi c0_i32_11 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v27 : BitVec 32 := Scalar.muli v5 c4_i32_12
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v14 : BitVec 32 := Scalar.addi v8 c1_i32_3
  let c4_i32_4 : BitVec 32 := 4#32
  let c0_i32 : BitVec 32 := 0#32
  let v15 : BitVec 1 := Scalar.cmpi .eq c4_i32_4 c0_i32
  let c1_i32_5 : BitVec 32 := 1#32
  let v16 : BitVec 32 := Scalar.select v15 c1_i32_5 c4_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_13 : BitVec 32 := 1#32
  let v29 : BitVec 32 := Scalar.muli v24 c1_i32_13
  let v30 : BitVec 32 := Scalar.addi v28 v29
  v30.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v42 : BitVec 32 := Scalar.muli v2 c16_i32_22
  let v43 : BitVec 32 := Scalar.addi c0_i32_23 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v44 : BitVec 32 := Scalar.muli v5 c4_i32_24
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_25 : BitVec 32 := 1#32
  let v46 : BitVec 32 := Scalar.muli v41 c1_i32_25
  let v47 : BitVec 32 := Scalar.addi v45 v46
  v47.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v59 : BitVec 32 := Scalar.muli v2 c16_i32_33
  let v60 : BitVec 32 := Scalar.addi c0_i32_34 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v61 : BitVec 32 := Scalar.muli v5 c4_i32_35
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v48 : BitVec 32 := Scalar.addi v8 c3_i32
  let c4_i32_26 : BitVec 32 := 4#32
  let c0_i32_27 : BitVec 32 := 0#32
  let v49 : BitVec 1 := Scalar.cmpi .eq c4_i32_26 c0_i32_27
  let c1_i32_28 : BitVec 32 := 1#32
  let v50 : BitVec 32 := Scalar.select v49 c1_i32_28 c4_i32_26
  let v51 : BitVec 32 := Scalar.remsi v48 v50
  let c0_i32_30 : BitVec 32 := 0#32
  let v53 : BitVec 1 := Scalar.cmpi .slt v51 c0_i32_30
  let c0_i32_31 : BitVec 32 := 0#32
  let v54 : BitVec 1 := Scalar.cmpi .slt v50 c0_i32_31
  let v55 : BitVec 1 := Scalar.xori v53 v54
  let c0_i32_29 : BitVec 32 := 0#32
  let v52 : BitVec 1 := Scalar.cmpi .ne v51 c0_i32_29
  let v56 : BitVec 1 := Scalar.andi v55 v52
  let v57 : BitVec 32 := Scalar.addi v51 v50
  let v58 : BitVec 32 := Scalar.select v56 v57 v51
  let c1_i32_36 : BitVec 32 := 1#32
  let v63 : BitVec 32 := Scalar.muli v58 c1_i32_36
  let v64 : BitVec 32 := Scalar.addi v62 v63
  v64.toNat
def k0_dev4 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v76 : BitVec 32 := Scalar.muli v2 c16_i32_45
  let v77 : BitVec 32 := Scalar.addi c0_i32_46 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_37 : BitVec 32 := 1#32
  let v65 : BitVec 32 := Scalar.addi v5 c1_i32_37
  let c4_i32_38 : BitVec 32 := 4#32
  let c0_i32_39 : BitVec 32 := 0#32
  let v66 : BitVec 1 := Scalar.cmpi .eq c4_i32_38 c0_i32_39
  let c1_i32_40 : BitVec 32 := 1#32
  let v67 : BitVec 32 := Scalar.select v66 c1_i32_40 c4_i32_38
  let v68 : BitVec 32 := Scalar.remsi v65 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  let c4_i32_47 : BitVec 32 := 4#32
  let v78 : BitVec 32 := Scalar.muli v75 c4_i32_47
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v80 : BitVec 32 := Scalar.muli v8 c1_i32_48
  let v81 : BitVec 32 := Scalar.addi v79 v80
  v81.toNat
def k0_dev5 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v93 : BitVec 32 := Scalar.muli v2 c16_i32_57
  let v94 : BitVec 32 := Scalar.addi c0_i32_58 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v82 : BitVec 32 := Scalar.addi v5 c2_i32_49
  let c4_i32_50 : BitVec 32 := 4#32
  let c0_i32_51 : BitVec 32 := 0#32
  let v83 : BitVec 1 := Scalar.cmpi .eq c4_i32_50 c0_i32_51
  let c1_i32_52 : BitVec 32 := 1#32
  let v84 : BitVec 32 := Scalar.select v83 c1_i32_52 c4_i32_50
  let v85 : BitVec 32 := Scalar.remsi v82 v84
  let c0_i32_54 : BitVec 32 := 0#32
  let v87 : BitVec 1 := Scalar.cmpi .slt v85 c0_i32_54
  let c0_i32_55 : BitVec 32 := 0#32
  let v88 : BitVec 1 := Scalar.cmpi .slt v84 c0_i32_55
  let v89 : BitVec 1 := Scalar.xori v87 v88
  let c0_i32_53 : BitVec 32 := 0#32
  let v86 : BitVec 1 := Scalar.cmpi .ne v85 c0_i32_53
  let v90 : BitVec 1 := Scalar.andi v89 v86
  let v91 : BitVec 32 := Scalar.addi v85 v84
  let v92 : BitVec 32 := Scalar.select v90 v91 v85
  let c4_i32_59 : BitVec 32 := 4#32
  let v95 : BitVec 32 := Scalar.muli v92 c4_i32_59
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v97 : BitVec 32 := Scalar.muli v8 c1_i32_60
  let v98 : BitVec 32 := Scalar.addi v96 v97
  v98.toNat
def k0_dev6 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v110 : BitVec 32 := Scalar.muli v2 c16_i32_69
  let v111 : BitVec 32 := Scalar.addi c0_i32_70 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_61 : BitVec 32 := 3#32
  let v99 : BitVec 32 := Scalar.addi v5 c3_i32_61
  let c4_i32_62 : BitVec 32 := 4#32
  let c0_i32_63 : BitVec 32 := 0#32
  let v100 : BitVec 1 := Scalar.cmpi .eq c4_i32_62 c0_i32_63
  let c1_i32_64 : BitVec 32 := 1#32
  let v101 : BitVec 32 := Scalar.select v100 c1_i32_64 c4_i32_62
  let v102 : BitVec 32 := Scalar.remsi v99 v101
  let c0_i32_66 : BitVec 32 := 0#32
  let v104 : BitVec 1 := Scalar.cmpi .slt v102 c0_i32_66
  let c0_i32_67 : BitVec 32 := 0#32
  let v105 : BitVec 1 := Scalar.cmpi .slt v101 c0_i32_67
  let v106 : BitVec 1 := Scalar.xori v104 v105
  let c0_i32_65 : BitVec 32 := 0#32
  let v103 : BitVec 1 := Scalar.cmpi .ne v102 c0_i32_65
  let v107 : BitVec 1 := Scalar.andi v106 v103
  let v108 : BitVec 32 := Scalar.addi v102 v101
  let v109 : BitVec 32 := Scalar.select v107 v108 v102
  let c4_i32_71 : BitVec 32 := 4#32
  let v112 : BitVec 32 := Scalar.muli v109 c4_i32_71
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v114 : BitVec 32 := Scalar.muli v8 c1_i32_72
  let v115 : BitVec 32 := Scalar.addi v113 v114
  v115.toNat
def k0_dev7 (d0 : Dev nD) : Nat :=
  let c0_i32_75 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_74 : BitVec 32 := 16#32
  let v116 : BitVec 32 := Scalar.muli v9 c16_i32_74
  let v117 : BitVec 32 := Scalar.addi c0_i32_75 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v118 : BitVec 32 := Scalar.muli v5 c4_i32_76
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v120 : BitVec 32 := Scalar.muli v8 c1_i32_77
  let v121 : BitVec 32 := Scalar.addi v119 v120
  v121.toNat
def k0_off1 (d0 : Dev nD) (c1_i32_78 : BitVec 32) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v11 : BitVec 32 := Scalar.muli v5 c128_i32
  let v12 : BitVec 32 := Scalar.addi v10 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v122 : BitVec 32 := Scalar.subi v8 c1_i32_78
  let c4_i32_79 : BitVec 32 := 4#32
  let c0_i32_80 : BitVec 32 := 0#32
  let v123 : BitVec 1 := Scalar.cmpi .eq c4_i32_79 c0_i32_80
  let c1_i32_81 : BitVec 32 := 1#32
  let v124 : BitVec 32 := Scalar.select v123 c1_i32_81 c4_i32_79
  let v125 : BitVec 32 := Scalar.remsi v122 v124
  let c0_i32_83 : BitVec 32 := 0#32
  let v127 : BitVec 1 := Scalar.cmpi .slt v125 c0_i32_83
  let c0_i32_84 : BitVec 32 := 0#32
  let v128 : BitVec 1 := Scalar.cmpi .slt v124 c0_i32_84
  let v129 : BitVec 1 := Scalar.xori v127 v128
  let c0_i32_82 : BitVec 32 := 0#32
  let v126 : BitVec 1 := Scalar.cmpi .ne v125 c0_i32_82
  let v130 : BitVec 1 := Scalar.andi v129 v126
  let v131 : BitVec 32 := Scalar.addi v125 v124
  let v132 : BitVec 32 := Scalar.select v130 v131 v125
  let c32_i32 : BitVec 32 := 32#32
  let v133 : BitVec 32 := Scalar.muli v132 c32_i32
  let v134 : BitVec 32 := Scalar.addi v12 v133
  let v135 : Index := Scalar.indexCast v134
  let c0_85 : Index := 0#32
  ![0, v135.toNat, 0]
def k0_dev8 (d0 : Dev nD) : Nat :=
  let c0_i32_94 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_93 : BitVec 32 := 16#32
  let v141 : BitVec 32 := Scalar.muli v2 c16_i32_93
  let v142 : BitVec 32 := Scalar.addi c0_i32_94 v141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v143 : BitVec 32 := Scalar.muli v5 c4_i32_95
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v122 : BitVec 32 := Scalar.subi v8 c1_i32_78
  let c4_i32_79 : BitVec 32 := 4#32
  let c0_i32_80 : BitVec 32 := 0#32
  let v123 : BitVec 1 := Scalar.cmpi .eq c4_i32_79 c0_i32_80
  let c1_i32_81 : BitVec 32 := 1#32
  let v124 : BitVec 32 := Scalar.select v123 c1_i32_81 c4_i32_79
  let v125 : BitVec 32 := Scalar.remsi v122 v124
  let c0_i32_83 : BitVec 32 := 0#32
  let v127 : BitVec 1 := Scalar.cmpi .slt v125 c0_i32_83
  let c0_i32_84 : BitVec 32 := 0#32
  let v128 : BitVec 1 := Scalar.cmpi .slt v124 c0_i32_84
  let v129 : BitVec 1 := Scalar.xori v127 v128
  let c0_i32_82 : BitVec 32 := 0#32
  let v126 : BitVec 1 := Scalar.cmpi .ne v125 c0_i32_82
  let v130 : BitVec 1 := Scalar.andi v129 v126
  let v131 : BitVec 32 := Scalar.addi v125 v124
  let v132 : BitVec 32 := Scalar.select v130 v131 v125
  let c1_i32_96 : BitVec 32 := 1#32
  let v145 : BitVec 32 := Scalar.muli v132 c1_i32_96
  let v146 : BitVec 32 := Scalar.addi v144 v145
  v146.toNat
def k0_dev9 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v174 : BitVec 32 := Scalar.muli v2 c16_i32_117
  let v175 : BitVec 32 := Scalar.addi c0_i32_118 v174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v176 : BitVec 32 := Scalar.muli v5 c4_i32_119
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v155 : BitVec 32 := Scalar.subi v8 c2_i32_101
  let c4_i32_102 : BitVec 32 := 4#32
  let c0_i32_103 : BitVec 32 := 0#32
  let v156 : BitVec 1 := Scalar.cmpi .eq c4_i32_102 c0_i32_103
  let c1_i32_104 : BitVec 32 := 1#32
  let v157 : BitVec 32 := Scalar.select v156 c1_i32_104 c4_i32_102
  let v158 : BitVec 32 := Scalar.remsi v155 v157
  let c0_i32_106 : BitVec 32 := 0#32
  let v160 : BitVec 1 := Scalar.cmpi .slt v158 c0_i32_106
  let c0_i32_107 : BitVec 32 := 0#32
  let v161 : BitVec 1 := Scalar.cmpi .slt v157 c0_i32_107
  let v162 : BitVec 1 := Scalar.xori v160 v161
  let c0_i32_105 : BitVec 32 := 0#32
  let v159 : BitVec 1 := Scalar.cmpi .ne v158 c0_i32_105
  let v163 : BitVec 1 := Scalar.andi v162 v159
  let v164 : BitVec 32 := Scalar.addi v158 v157
  let v165 : BitVec 32 := Scalar.select v163 v164 v158
  let c1_i32_120 : BitVec 32 := 1#32
  let v178 : BitVec 32 := Scalar.muli v165 c1_i32_120
  let v179 : BitVec 32 := Scalar.addi v177 v178
  v179.toNat
def k0_dev10 (d0 : Dev nD) : Nat :=
  let c0_i32_142 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_141 : BitVec 32 := 16#32
  let v207 : BitVec 32 := Scalar.muli v2 c16_i32_141
  let v208 : BitVec 32 := Scalar.addi c0_i32_142 v207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_143 : BitVec 32 := 4#32
  let v209 : BitVec 32 := Scalar.muli v5 c4_i32_143
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_125 : BitVec 32 := 3#32
  let v188 : BitVec 32 := Scalar.subi v8 c3_i32_125
  let c4_i32_126 : BitVec 32 := 4#32
  let c0_i32_127 : BitVec 32 := 0#32
  let v189 : BitVec 1 := Scalar.cmpi .eq c4_i32_126 c0_i32_127
  let c1_i32_128 : BitVec 32 := 1#32
  let v190 : BitVec 32 := Scalar.select v189 c1_i32_128 c4_i32_126
  let v191 : BitVec 32 := Scalar.remsi v188 v190
  let c0_i32_130 : BitVec 32 := 0#32
  let v193 : BitVec 1 := Scalar.cmpi .slt v191 c0_i32_130
  let c0_i32_131 : BitVec 32 := 0#32
  let v194 : BitVec 1 := Scalar.cmpi .slt v190 c0_i32_131
  let v195 : BitVec 1 := Scalar.xori v193 v194
  let c0_i32_129 : BitVec 32 := 0#32
  let v192 : BitVec 1 := Scalar.cmpi .ne v191 c0_i32_129
  let v196 : BitVec 1 := Scalar.andi v195 v192
  let v197 : BitVec 32 := Scalar.addi v191 v190
  let v198 : BitVec 32 := Scalar.select v196 v197 v191
  let c1_i32_144 : BitVec 32 := 1#32
  let v211 : BitVec 32 := Scalar.muli v198 c1_i32_144
  let v212 : BitVec 32 := Scalar.addi v210 v211
  v212.toNat
def k0_off2 (d0 : Dev nD) : Fin 3 → Nat :=
  let c0_150 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v11 : BitVec 32 := Scalar.muli v5 c128_i32
  let v12 : BitVec 32 := Scalar.addi v10 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_149 : BitVec 32 := 32#32
  let v221 : BitVec 32 := Scalar.muli v8 c32_i32_149
  let v222 : BitVec 32 := Scalar.addi v12 v221
  let v223 : Index := Scalar.indexCast v222
  let c0_151 : Index := 0#32
  ![0, v223.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v11 : BitVec 32 := Scalar.muli v5 c128_i32
  let v12 : BitVec 32 := Scalar.addi v10 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_152 : BitVec 32 := 32#32
  let v226 : BitVec 32 := Scalar.muli v8 c32_i32_152
  let v227 : BitVec 32 := Scalar.addi v12 v226
  let v228 : Index := Scalar.indexCast v227
  let c0_153 : Index := 0#32
  ![v228.toNat, 0]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_202 : BitVec 32 := 32#32
  let v298 : BitVec 32 := Scalar.muli v8 c32_i32_202
  let v299 : Index := Scalar.indexCast v298
  let c0_203 : Index := 0#32
  ![v299.toNat, 0]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_214 : BitVec 32 := 32#32
  let v319 : BitVec 32 := Scalar.muli v8 c32_i32_214
  let c0_i32_221 : BitVec 32 := 0#32
  ![v319.toNat, 0]
def k0_dev11 (d0 : Dev nD) : Nat :=
  let c0_i32_218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_217 : BitVec 32 := 16#32
  let v320 : BitVec 32 := Scalar.muli v2 c16_i32_217
  let v321 : BitVec 32 := Scalar.addi c0_i32_218 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_219 : BitVec 32 := 4#32
  let v322 : BitVec 32 := Scalar.muli v5 c4_i32_219
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v307 : BitVec 32 := Scalar.subi v8 c1_i32_206
  let c4_i32_207 : BitVec 32 := 4#32
  let c0_i32_208 : BitVec 32 := 0#32
  let v308 : BitVec 1 := Scalar.cmpi .eq c4_i32_207 c0_i32_208
  let c1_i32_209 : BitVec 32 := 1#32
  let v309 : BitVec 32 := Scalar.select v308 c1_i32_209 c4_i32_207
  let v310 : BitVec 32 := Scalar.remsi v307 v309
  let c0_i32_211 : BitVec 32 := 0#32
  let v312 : BitVec 1 := Scalar.cmpi .slt v310 c0_i32_211
  let c0_i32_212 : BitVec 32 := 0#32
  let v313 : BitVec 1 := Scalar.cmpi .slt v309 c0_i32_212
  let v314 : BitVec 1 := Scalar.xori v312 v313
  let c0_i32_210 : BitVec 32 := 0#32
  let v311 : BitVec 1 := Scalar.cmpi .ne v310 c0_i32_210
  let v315 : BitVec 1 := Scalar.andi v314 v311
  let v316 : BitVec 32 := Scalar.addi v310 v309
  let v317 : BitVec 32 := Scalar.select v315 v316 v310
  let c1_i32_220 : BitVec 32 := 1#32
  let v324 : BitVec 32 := Scalar.muli v317 c1_i32_220
  let v325 : BitVec 32 := Scalar.addi v323 v324
  v325.toNat
def k0_dev12 (d0 : Dev nD) : Nat :=
  let c0_i32_235 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_234 : BitVec 32 := 16#32
  let v345 : BitVec 32 := Scalar.muli v2 c16_i32_234
  let v346 : BitVec 32 := Scalar.addi c0_i32_235 v345
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_236 : BitVec 32 := 4#32
  let v347 : BitVec 32 := Scalar.muli v5 c4_i32_236
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_223 : BitVec 32 := 2#32
  let v332 : BitVec 32 := Scalar.subi v8 c2_i32_223
  let c4_i32_224 : BitVec 32 := 4#32
  let c0_i32_225 : BitVec 32 := 0#32
  let v333 : BitVec 1 := Scalar.cmpi .eq c4_i32_224 c0_i32_225
  let c1_i32_226 : BitVec 32 := 1#32
  let v334 : BitVec 32 := Scalar.select v333 c1_i32_226 c4_i32_224
  let v335 : BitVec 32 := Scalar.remsi v332 v334
  let c0_i32_228 : BitVec 32 := 0#32
  let v337 : BitVec 1 := Scalar.cmpi .slt v335 c0_i32_228
  let c0_i32_229 : BitVec 32 := 0#32
  let v338 : BitVec 1 := Scalar.cmpi .slt v334 c0_i32_229
  let v339 : BitVec 1 := Scalar.xori v337 v338
  let c0_i32_227 : BitVec 32 := 0#32
  let v336 : BitVec 1 := Scalar.cmpi .ne v335 c0_i32_227
  let v340 : BitVec 1 := Scalar.andi v339 v336
  let v341 : BitVec 32 := Scalar.addi v335 v334
  let v342 : BitVec 32 := Scalar.select v340 v341 v335
  let c1_i32_237 : BitVec 32 := 1#32
  let v349 : BitVec 32 := Scalar.muli v342 c1_i32_237
  let v350 : BitVec 32 := Scalar.addi v348 v349
  v350.toNat
def k0_dev13 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v370 : BitVec 32 := Scalar.muli v2 c16_i32_251
  let v371 : BitVec 32 := Scalar.addi c0_i32_252 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_253 : BitVec 32 := 4#32
  let v372 : BitVec 32 := Scalar.muli v5 c4_i32_253
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_240 : BitVec 32 := 3#32
  let v357 : BitVec 32 := Scalar.subi v8 c3_i32_240
  let c4_i32_241 : BitVec 32 := 4#32
  let c0_i32_242 : BitVec 32 := 0#32
  let v358 : BitVec 1 := Scalar.cmpi .eq c4_i32_241 c0_i32_242
  let c1_i32_243 : BitVec 32 := 1#32
  let v359 : BitVec 32 := Scalar.select v358 c1_i32_243 c4_i32_241
  let v360 : BitVec 32 := Scalar.remsi v357 v359
  let c0_i32_245 : BitVec 32 := 0#32
  let v362 : BitVec 1 := Scalar.cmpi .slt v360 c0_i32_245
  let c0_i32_246 : BitVec 32 := 0#32
  let v363 : BitVec 1 := Scalar.cmpi .slt v359 c0_i32_246
  let v364 : BitVec 1 := Scalar.xori v362 v363
  let c0_i32_244 : BitVec 32 := 0#32
  let v361 : BitVec 1 := Scalar.cmpi .ne v360 c0_i32_244
  let v365 : BitVec 1 := Scalar.andi v364 v361
  let v366 : BitVec 32 := Scalar.addi v360 v359
  let v367 : BitVec 32 := Scalar.select v365 v366 v360
  let c1_i32_254 : BitVec 32 := 1#32
  let v374 : BitVec 32 := Scalar.muli v367 c1_i32_254
  let v375 : BitVec 32 := Scalar.addi v373 v374
  v375.toNat
def k0_off6 (d0 : Dev nD) (c0_i32_265 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v392 : BitVec 32 := Scalar.addi v8 c0_i32_265
  let c1_i32_266 : BitVec 32 := 1#32
  let v393 : BitVec 32 := Scalar.addi v392 c1_i32_266
  let c4_i32_267 : BitVec 32 := 4#32
  let c0_i32_268 : BitVec 32 := 0#32
  let v394 : BitVec 1 := Scalar.cmpi .eq c4_i32_267 c0_i32_268
  let c1_i32_269 : BitVec 32 := 1#32
  let v395 : BitVec 32 := Scalar.select v394 c1_i32_269 c4_i32_267
  let v396 : BitVec 32 := Scalar.remsi v393 v395
  let c0_i32_271 : BitVec 32 := 0#32
  let v398 : BitVec 1 := Scalar.cmpi .slt v396 c0_i32_271
  let c0_i32_272 : BitVec 32 := 0#32
  let v399 : BitVec 1 := Scalar.cmpi .slt v395 c0_i32_272
  let v400 : BitVec 1 := Scalar.xori v398 v399
  let c0_i32_270 : BitVec 32 := 0#32
  let v397 : BitVec 1 := Scalar.cmpi .ne v396 c0_i32_270
  let v401 : BitVec 1 := Scalar.andi v400 v397
  let v402 : BitVec 32 := Scalar.addi v396 v395
  let v403 : BitVec 32 := Scalar.select v401 v402 v396
  let c32_i32_273 : BitVec 32 := 32#32
  let v404 : BitVec 32 := Scalar.muli v403 c32_i32_273
  let v405 : Index := Scalar.indexCast v404
  let c0_274 : Index := 0#32
  ![v405.toNat, 0]
def k0_off7 (d0 : Dev nD) (c0_i32_265 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v11 : BitVec 32 := Scalar.muli v5 c128_i32
  let v12 : BitVec 32 := Scalar.addi v10 v11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v392 : BitVec 32 := Scalar.addi v8 c0_i32_265
  let c1_i32_266 : BitVec 32 := 1#32
  let v393 : BitVec 32 := Scalar.addi v392 c1_i32_266
  let c4_i32_267 : BitVec 32 := 4#32
  let c0_i32_268 : BitVec 32 := 0#32
  let v394 : BitVec 1 := Scalar.cmpi .eq c4_i32_267 c0_i32_268
  let c1_i32_269 : BitVec 32 := 1#32
  let v395 : BitVec 32 := Scalar.select v394 c1_i32_269 c4_i32_267
  let v396 : BitVec 32 := Scalar.remsi v393 v395
  let c0_i32_271 : BitVec 32 := 0#32
  let v398 : BitVec 1 := Scalar.cmpi .slt v396 c0_i32_271
  let c0_i32_272 : BitVec 32 := 0#32
  let v399 : BitVec 1 := Scalar.cmpi .slt v395 c0_i32_272
  let v400 : BitVec 1 := Scalar.xori v398 v399
  let c0_i32_270 : BitVec 32 := 0#32
  let v397 : BitVec 1 := Scalar.cmpi .ne v396 c0_i32_270
  let v401 : BitVec 1 := Scalar.andi v400 v397
  let v402 : BitVec 32 := Scalar.addi v396 v395
  let v403 : BitVec 32 := Scalar.select v401 v402 v396
  let c32_i32_275 : BitVec 32 := 32#32
  let v408 : BitVec 32 := Scalar.muli v403 c32_i32_275
  let v409 : BitVec 32 := Scalar.addi v12 v408
  let v410 : Index := Scalar.indexCast v409
  let c0_276 : Index := 0#32
  ![v410.toNat, 0]
def k0_dev14 (d0 : Dev nD) : Nat :=
  let c0_i32_328 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_327 : BitVec 32 := 16#32
  let v483 : BitVec 32 := Scalar.muli v2 c16_i32_327
  let v484 : BitVec 32 := Scalar.addi c0_i32_328 v483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_317 : BitVec 32 := 1#32
  let v472 : BitVec 32 := Scalar.subi v5 c1_i32_317
  let c4_i32_318 : BitVec 32 := 4#32
  let c0_i32_319 : BitVec 32 := 0#32
  let v473 : BitVec 1 := Scalar.cmpi .eq c4_i32_318 c0_i32_319
  let c1_i32_320 : BitVec 32 := 1#32
  let v474 : BitVec 32 := Scalar.select v473 c1_i32_320 c4_i32_318
  let v475 : BitVec 32 := Scalar.remsi v472 v474
  let c0_i32_322 : BitVec 32 := 0#32
  let v477 : BitVec 1 := Scalar.cmpi .slt v475 c0_i32_322
  let c0_i32_323 : BitVec 32 := 0#32
  let v478 : BitVec 1 := Scalar.cmpi .slt v474 c0_i32_323
  let v479 : BitVec 1 := Scalar.xori v477 v478
  let c0_i32_321 : BitVec 32 := 0#32
  let v476 : BitVec 1 := Scalar.cmpi .ne v475 c0_i32_321
  let v480 : BitVec 1 := Scalar.andi v479 v476
  let v481 : BitVec 32 := Scalar.addi v475 v474
  let v482 : BitVec 32 := Scalar.select v480 v481 v475
  let c4_i32_329 : BitVec 32 := 4#32
  let v485 : BitVec 32 := Scalar.muli v482 c4_i32_329
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v487 : BitVec 32 := Scalar.muli v8 c1_i32_330
  let v488 : BitVec 32 := Scalar.addi v486 v487
  v488.toNat
def k0_dev15 (d0 : Dev nD) : Nat :=
  let c0_i32_344 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_343 : BitVec 32 := 16#32
  let v506 : BitVec 32 := Scalar.muli v2 c16_i32_343
  let v507 : BitVec 32 := Scalar.addi c0_i32_344 v506
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_333 : BitVec 32 := 2#32
  let v495 : BitVec 32 := Scalar.subi v5 c2_i32_333
  let c4_i32_334 : BitVec 32 := 4#32
  let c0_i32_335 : BitVec 32 := 0#32
  let v496 : BitVec 1 := Scalar.cmpi .eq c4_i32_334 c0_i32_335
  let c1_i32_336 : BitVec 32 := 1#32
  let v497 : BitVec 32 := Scalar.select v496 c1_i32_336 c4_i32_334
  let v498 : BitVec 32 := Scalar.remsi v495 v497
  let c0_i32_338 : BitVec 32 := 0#32
  let v500 : BitVec 1 := Scalar.cmpi .slt v498 c0_i32_338
  let c0_i32_339 : BitVec 32 := 0#32
  let v501 : BitVec 1 := Scalar.cmpi .slt v497 c0_i32_339
  let v502 : BitVec 1 := Scalar.xori v500 v501
  let c0_i32_337 : BitVec 32 := 0#32
  let v499 : BitVec 1 := Scalar.cmpi .ne v498 c0_i32_337
  let v503 : BitVec 1 := Scalar.andi v502 v499
  let v504 : BitVec 32 := Scalar.addi v498 v497
  let v505 : BitVec 32 := Scalar.select v503 v504 v498
  let c4_i32_345 : BitVec 32 := 4#32
  let v508 : BitVec 32 := Scalar.muli v505 c4_i32_345
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v510 : BitVec 32 := Scalar.muli v8 c1_i32_346
  let v511 : BitVec 32 := Scalar.addi v509 v510
  v511.toNat
def k0_dev16 (d0 : Dev nD) : Nat :=
  let c0_i32_360 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_359 : BitVec 32 := 16#32
  let v529 : BitVec 32 := Scalar.muli v2 c16_i32_359
  let v530 : BitVec 32 := Scalar.addi c0_i32_360 v529
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_349 : BitVec 32 := 3#32
  let v518 : BitVec 32 := Scalar.subi v5 c3_i32_349
  let c4_i32_350 : BitVec 32 := 4#32
  let c0_i32_351 : BitVec 32 := 0#32
  let v519 : BitVec 1 := Scalar.cmpi .eq c4_i32_350 c0_i32_351
  let c1_i32_352 : BitVec 32 := 1#32
  let v520 : BitVec 32 := Scalar.select v519 c1_i32_352 c4_i32_350
  let v521 : BitVec 32 := Scalar.remsi v518 v520
  let c0_i32_354 : BitVec 32 := 0#32
  let v523 : BitVec 1 := Scalar.cmpi .slt v521 c0_i32_354
  let c0_i32_355 : BitVec 32 := 0#32
  let v524 : BitVec 1 := Scalar.cmpi .slt v520 c0_i32_355
  let v525 : BitVec 1 := Scalar.xori v523 v524
  let c0_i32_353 : BitVec 32 := 0#32
  let v522 : BitVec 1 := Scalar.cmpi .ne v521 c0_i32_353
  let v526 : BitVec 1 := Scalar.andi v525 v522
  let v527 : BitVec 32 := Scalar.addi v521 v520
  let v528 : BitVec 32 := Scalar.select v526 v527 v521
  let c4_i32_361 : BitVec 32 := 4#32
  let v531 : BitVec 32 := Scalar.muli v528 c4_i32_361
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v533 : BitVec 32 := Scalar.muli v8 c1_i32_362
  let v534 : BitVec 32 := Scalar.addi v532 v533
  v534.toNat
def k0_dev17 (d0 : Dev nD) : Nat :=
  let c0_i32_369 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_368 : BitVec 32 := 16#32
  let v541 : BitVec 32 := Scalar.muli v9 c16_i32_368
  let v542 : BitVec 32 := Scalar.addi c0_i32_369 v541
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_370 : BitVec 32 := 4#32
  let v543 : BitVec 32 := Scalar.muli v5 c4_i32_370
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v545 : BitVec 32 := Scalar.muli v8 c1_i32_371
  let v546 : BitVec 32 := Scalar.addi v544 v545
  v546.toNat
def k0_dev18 (d0 : Dev nD) : Nat :=
  let c0_i32_388 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_387 : BitVec 32 := 16#32
  let v563 : BitVec 32 := Scalar.muli v9 c16_i32_387
  let v564 : BitVec 32 := Scalar.addi c0_i32_388 v563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v565 : BitVec 32 := Scalar.muli v5 c4_i32_389
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v567 : BitVec 32 := Scalar.muli v8 c1_i32_390
  let v568 : BitVec 32 := Scalar.addi v566 v567
  v568.toNat
def k0_off8 (d0 : Dev nD) (c0_i32_395 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_406 : BitVec 32 := 512#32
  let v592 : BitVec 32 := Scalar.muli v2 c512_i32_406
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v577 : BitVec 32 := Scalar.addi v5 c0_i32_395
  let c1_i32_396 : BitVec 32 := 1#32
  let v578 : BitVec 32 := Scalar.addi v577 c1_i32_396
  let c4_i32_397 : BitVec 32 := 4#32
  let c0_i32_398 : BitVec 32 := 0#32
  let v579 : BitVec 1 := Scalar.cmpi .eq c4_i32_397 c0_i32_398
  let c1_i32_399 : BitVec 32 := 1#32
  let v580 : BitVec 32 := Scalar.select v579 c1_i32_399 c4_i32_397
  let v581 : BitVec 32 := Scalar.remsi v578 v580
  let c0_i32_401 : BitVec 32 := 0#32
  let v583 : BitVec 1 := Scalar.cmpi .slt v581 c0_i32_401
  let c0_i32_402 : BitVec 32 := 0#32
  let v584 : BitVec 1 := Scalar.cmpi .slt v580 c0_i32_402
  let v585 : BitVec 1 := Scalar.xori v583 v584
  let c0_i32_400 : BitVec 32 := 0#32
  let v582 : BitVec 1 := Scalar.cmpi .ne v581 c0_i32_400
  let v586 : BitVec 1 := Scalar.andi v585 v582
  let v587 : BitVec 32 := Scalar.addi v581 v580
  let v588 : BitVec 32 := Scalar.select v586 v587 v581
  let c128_i32_407 : BitVec 32 := 128#32
  let v593 : BitVec 32 := Scalar.muli v588 c128_i32_407
  let v594 : BitVec 32 := Scalar.addi v592 v593
  let v595 : Index := Scalar.indexCast v594
  let c0_408 : Index := 0#32
  ![v595.toNat, 0]
def k0_dev19 (d0 : Dev nD) : Nat :=
  let c0_i32_423 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_422 : BitVec 32 := 16#32
  let v607 : BitVec 32 := Scalar.muli v9 c16_i32_422
  let v608 : BitVec 32 := Scalar.addi c0_i32_423 v607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_424 : BitVec 32 := 4#32
  let v609 : BitVec 32 := Scalar.muli v5 c4_i32_424
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_425 : BitVec 32 := 1#32
  let v611 : BitVec 32 := Scalar.muli v8 c1_i32_425
  let v612 : BitVec 32 := Scalar.addi v610 v611
  v612.toNat
def k0_dev20 (d0 : Dev nD) : Nat :=
  let c0_i32_458 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_457 : BitVec 32 := 16#32
  let v651 : BitVec 32 := Scalar.muli v9 c16_i32_457
  let v652 : BitVec 32 := Scalar.addi c0_i32_458 v651
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_459 : BitVec 32 := 4#32
  let v653 : BitVec 32 := Scalar.muli v5 c4_i32_459
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v655 : BitVec 32 := Scalar.muli v8 c1_i32_460
  let v656 : BitVec 32 := Scalar.addi v654 v655
  v656.toNat
def k0_off9 (d0 : Dev nD) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_491 : BitVec 32 := 512#32
  let v698 : BitVec 32 := Scalar.muli v9 c512_i32_491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32_492 : BitVec 32 := 128#32
  let v699 : BitVec 32 := Scalar.muli v5 c128_i32_492
  let v700 : BitVec 32 := Scalar.addi v698 v699
  let v701 : Index := Scalar.indexCast v700
  let c0_493 : Index := 0#32
  ![v701.toNat, 0]
def k0_off10 (d0 : Dev nD) (c0_i32_506 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_517 : BitVec 32 := 512#32
  let v730 : BitVec 32 := Scalar.muli v9 c512_i32_517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v715 : BitVec 32 := Scalar.addi v5 c0_i32_506
  let c1_i32_507 : BitVec 32 := 1#32
  let v716 : BitVec 32 := Scalar.addi v715 c1_i32_507
  let c4_i32_508 : BitVec 32 := 4#32
  let c0_i32_509 : BitVec 32 := 0#32
  let v717 : BitVec 1 := Scalar.cmpi .eq c4_i32_508 c0_i32_509
  let c1_i32_510 : BitVec 32 := 1#32
  let v718 : BitVec 32 := Scalar.select v717 c1_i32_510 c4_i32_508
  let v719 : BitVec 32 := Scalar.remsi v716 v718
  let c0_i32_512 : BitVec 32 := 0#32
  let v721 : BitVec 1 := Scalar.cmpi .slt v719 c0_i32_512
  let c0_i32_513 : BitVec 32 := 0#32
  let v722 : BitVec 1 := Scalar.cmpi .slt v718 c0_i32_513
  let v723 : BitVec 1 := Scalar.xori v721 v722
  let c0_i32_511 : BitVec 32 := 0#32
  let v720 : BitVec 1 := Scalar.cmpi .ne v719 c0_i32_511
  let v724 : BitVec 1 := Scalar.andi v723 v720
  let v725 : BitVec 32 := Scalar.addi v719 v718
  let v726 : BitVec 32 := Scalar.select v724 v725 v719
  let c128_i32_518 : BitVec 32 := 128#32
  let v731 : BitVec 32 := Scalar.muli v726 c128_i32_518
  let v732 : BitVec 32 := Scalar.addi v730 v731
  let v733 : Index := Scalar.indexCast v732
  let c0_519 : Index := 0#32
  ![v733.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .bf16⟩
  | .hbm, ⟨2, _⟩ => ⟨S1024, .bf16⟩
  | .hbm, ⟨3, _⟩ => ⟨S4x1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1024, .f32⟩
  | .hbm, ⟨22, _⟩ => ⟨S1x1024, .f32⟩
  | .hbm, ⟨23, _⟩ => ⟨S1024x1024, .f32⟩
  | .hbm, ⟨24, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Mesh.lean ====
/-
The mesh of 2 × 4 × 4 devices as the kernel walks it: the three ring steps, the transfers each device makes, the
buffer windows they read and write, and the semaphores that count them.

Device `16·x + 4·y + z` sits at `(x, y, z)`. Every device makes thirteen transfers:
  • `rs k`  its partial sum for the device `k + 1` places before it along `z`;
  • `ag k`  its own 32 normalised rows to that same device;
  • `yg k`  the 128 rows of its `z`-group to the device `k + 1` places before it along `y`;
  • `xs k`  to the device facing it along `x`: its own group's rows (`k = 0`), then each group it got along `y`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Fused

open Cert.KernelIdeal Cert.KernelIdeal.Gen
open Idealize.ShloMosaic Idealize.ShloMosaic.TcCoe Idealize.ShloMosaic.ValueIdx

/-! ## Steps on the mesh -/

set_option backward.proofsInPublic true in
/-- The device `k` places further along `z`. -/
def zup (d : Dev nD) (k : ℕ) : Dev nD :=
  ⟨4 * (d.val / 4) + (d.val % 4 + k) % 4, by have : d.val < 32 := d.isLt; show _ < 32; omega⟩
set_option backward.proofsInPublic true in
/-- The device `k` places further along `y`. -/
def yup (d : Dev nD) (k : ℕ) : Dev nD :=
  ⟨16 * (d.val / 16) + 4 * ((d.val / 4 % 4 + k) % 4) + d.val % 4, by have : d.val < 32 := d.isLt; show _ < 32; omega⟩
set_option backward.proofsInPublic true in
/-- The device facing this one along `x`. -/
def flip (d : Dev nD) : Dev nD := ⟨(d.val + 16) % 32, by show _ < 32; omega⟩
set_option backward.proofsInPublic true in
/-- The device of `d`'s `z`-group at place `z`. -/
def atZ (d : Dev nD) (z : ℕ) : Dev nD := ⟨4 * (d.val / 4) + z % 4, by have : d.val < 32 := d.isLt; show _ < 32; omega⟩

theorem zup_zup (d : Dev nD) (a b : ℕ) : zup (zup d a) b = zup d (a + b) := by
  apply Fin.ext; simp only [zup]; omega
theorem yup_yup (d : Dev nD) (a b : ℕ) : yup (yup d a) b = yup d (a + b) := by
  apply Fin.ext; simp only [yup]; omega
theorem zup_four (d : Dev nD) : zup d 4 = d := by apply Fin.ext; simp only [zup]; omega
theorem yup_zero (d : Dev nD) : yup d 0 = d := by apply Fin.ext; simp only [yup]; omega
theorem yup_four (d : Dev nD) : yup d 4 = d := by apply Fin.ext; simp only [yup]; omega
theorem flip_flip (d : Dev nD) : flip (flip d) = d := by
  apply Fin.ext; simp only [flip]; have : d.val < 32 := d.isLt; omega
theorem atZ_zup (d : Dev nD) (k z : ℕ) : atZ (zup d k) z = atZ d z := by apply Fin.ext; simp only [zup, atZ]; omega

theorem zback (k : Fin 3) (d : Dev nD) : zup (zup d (k.val + 1)) (3 - k.val) = d := by
  rw [zup_zup, show k.val + 1 + (3 - k.val) = 4 by omega, zup_four]
theorem zforth (k : Fin 3) (d : Dev nD) : zup (zup d (3 - k.val)) (k.val + 1) = d := by
  rw [zup_zup, show 3 - k.val + (k.val + 1) = 4 by omega, zup_four]
theorem yback (k : Fin 3) (d : Dev nD) : yup (yup d (k.val + 1)) (3 - k.val) = d := by
  rw [yup_yup, show k.val + 1 + (3 - k.val) = 4 by omega, yup_four]
theorem yforth (k : Fin 3) (d : Dev nD) : yup (yup d (3 - k.val)) (k.val + 1) = d := by
  rw [yup_yup, show 3 - k.val + (k.val + 1) = 4 by omega, yup_four]

/-- A step along `z`, as a permutation of the devices. -/
def zEquiv (k : Fin 3) : Dev nD ≃ Dev nD := ⟨fun d => zup d (k.val + 1), fun d => zup d (3 - k.val), zback k, zforth k⟩
/-- A step along `y`, as a permutation of the devices. -/
def yEquiv (k : Fin 3) : Dev nD ≃ Dev nD := ⟨fun d => yup d (k.val + 1), fun d => yup d (3 - k.val), yback k, yforth k⟩
/-- The step along `x`. -/
def xEquiv : Dev nD ≃ Dev nD := ⟨flip, flip, flip_flip, flip_flip⟩

/-! ## The transfers -/

/-- The transfers each device makes. -/
inductive Tr where
  | rs (k : Fin 3) | ag (k : Fin 3) | yg (k : Fin 3) | xs (k : Fin 4)
deriving DecidableEq

/-- All of them, in the order a device starts them. -/
def trs : List Tr :=
  [.rs 0, .rs 1, .rs 2, .ag 0, .ag 1, .ag 2, .yg 0, .yg 1, .yg 2, .xs 0, .xs 1, .xs 2, .xs 3]
theorem trs_nodup : trs.Nodup := by decide
theorem mem_trs (t : Tr) : t ∈ trs := by
  cases t with
  | rs k => revert k; decide
  | ag k => revert k; decide
  | yg k => revert k; decide
  | xs k => revert k; decide
instance : Fintype Tr := ⟨⟨trs, trs_nodup⟩, mem_trs⟩

/-- From which device transfer `t` comes into `d` (a permutation of the devices; its inverse is the target). -/
def from' : Tr → Dev nD ≃ Dev nD
  | .rs k => zEquiv k | .ag k => zEquiv k | .yg k => yEquiv k | .xs _ => xEquiv
/-- The device whose buffer transfer `t` of device `c` writes. -/
abbrev tgt (t : Tr) (c : Dev nD) : Dev nD := (from' t).symm c
/-- The device that makes transfer `t` into device `d`. -/
abbrev src (t : Tr) (d : Dev nD) : Dev nD := from' t d

/-- The seven devices that `d` signals before it receives anything: those which will write into its buffers. -/
def peer : Fin 7 → Dev nD ≃ Dev nD
  | 0 => zEquiv 0 | 1 => zEquiv 1 | 2 => zEquiv 2 | 3 => yEquiv 0 | 4 => yEquiv 1 | 5 => yEquiv 2 | 6 => xEquiv

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = tgt (.rs 0) c := by decide +kernel
theorem dev9_eq : ∀ c : Dev nD, (⟨k0_dev9 c, k0_dev9_lt c⟩ : Dev nD) = tgt (.rs 1) c := by decide +kernel
theorem dev10_eq : ∀ c : Dev nD, (⟨k0_dev10 c, k0_dev10_lt c⟩ : Dev nD) = tgt (.rs 2) c := by decide +kernel
theorem dev11_eq : ∀ c : Dev nD, (⟨k0_dev11 c, k0_dev11_lt c⟩ : Dev nD) = tgt (.ag 0) c := by decide +kernel
theorem dev12_eq : ∀ c : Dev nD, (⟨k0_dev12 c, k0_dev12_lt c⟩ : Dev nD) = tgt (.ag 1) c := by decide +kernel
theorem dev13_eq : ∀ c : Dev nD, (⟨k0_dev13 c, k0_dev13_lt c⟩ : Dev nD) = tgt (.ag 2) c := by decide +kernel
theorem dev14_eq : ∀ c : Dev nD, (⟨k0_dev14 c, k0_dev14_lt c⟩ : Dev nD) = tgt (.yg 0) c := by decide +kernel
theorem dev15_eq : ∀ c : Dev nD, (⟨k0_dev15 c, k0_dev15_lt c⟩ : Dev nD) = tgt (.yg 1) c := by decide +kernel
theorem dev16_eq : ∀ c : Dev nD, (⟨k0_dev16 c, k0_dev16_lt c⟩ : Dev nD) = tgt (.yg 2) c := by decide +kernel
theorem dev17_eq : ∀ c : Dev nD, (⟨k0_dev17 c, k0_dev17_lt c⟩ : Dev nD) = tgt (.xs 0) c := by decide +kernel
theorem dev18_eq : ∀ c : Dev nD, (⟨k0_dev18 c, k0_dev18_lt c⟩ : Dev nD) = tgt (.xs 1) c := by decide +kernel
theorem dev19_eq : ∀ c : Dev nD, (⟨k0_dev19 c, k0_dev19_lt c⟩ : Dev nD) = tgt (.xs 2) c := by decide +kernel
theorem dev20_eq : ∀ c : Dev nD, (⟨k0_dev20 c, k0_dev20_lt c⟩ : Dev nD) = tgt (.xs 3) c := by decide +kernel

/-! ## Where the rows lie

Block `e` of 32 rows of the whole result belongs to device `e`; the 128 rows of a `z`-group are its four blocks. -/

theorem off1_eq : ∀ c : Dev nD, ∀ k : Fin 3,
    k0_off1 c (BitVec.ofNat 32 (1 + k.val)) = ![0, 32 * (tgt (.rs k) c).val, 0] := by decide +kernel
theorem off2_eq : ∀ c : Dev nD, k0_off2 c = ![0, 32 * c.val, 0] := by decide +kernel
theorem off3_eq : ∀ c : Dev nD, k0_off3 c = ![32 * c.val, 0] := by decide +kernel
theorem off6_eq : ∀ c : Dev nD, ∀ k : Fin 3,
    k0_off6 c (BitVec.ofNat 32 k.val) = ![32 * ((src (.ag k) c).val % 4), 0] := by decide +kernel
theorem off7_eq : ∀ c : Dev nD, ∀ k : Fin 3,
    k0_off7 c (BitVec.ofNat 32 k.val) = ![32 * (src (.ag k) c).val, 0] := by decide +kernel
theorem off8_eq : ∀ c : Dev nD, ∀ k : Fin 3,
    k0_off8 c (BitVec.ofNat 32 k.val) = ![128 * ((src (.yg k) c).val / 4), 0] := by decide +kernel
theorem off9_eq : ∀ c : Dev nD, k0_off9 c = ![128 * ((flip c).val / 4), 0] := by decide +kernel
theorem off10_eq : ∀ c : Dev nD, ∀ k : Fin 3,
    k0_off10 c (BitVec.ofNat 32 k.val) = ![128 * ((yup (flip c) (k.val + 1)).val / 4), 0] := by decide +kernel

/-! ## The windows -/

theorem inbR (k : Fin 3) : ∀ a, (![k.val, 0, 0] : Fin 3 → ℕ) a + S1x32x1024.size a ≤ S3x32x1024.size a := by
  revert k; decide
theorem inbY (k : Fin 3) : ∀ a, (![k.val, 0, 0] : Fin 3 → ℕ) a + S1x128x1024.size a ≤ S3x128x1024.size a := by
  revert k; decide
theorem inbX (k : Fin 4) : ∀ a, (![k.val, 0, 0] : Fin 3 → ℕ) a + S1x128x1024.size a ≤ S4x128x1024.size a := by
  revert k; decide

/-- Slot `k` of the partial sums to be sent. -/
abbrev slotS (k : Fin 3) : Memref sig .tc .vmem S32x1024 .bf16 :=
  ((Memref.whole cc0_scratch0).slice (Rect.unit (s := S3x32x1024) ![k.val, 0, 0] S1x32x1024.size (inbR k)) (fun _ => rfl)).squeeze
    S32x1024 squeezes_S1x32x1024_S32x1024
/-- Slot `k` of the partial sums received. -/
abbrev slotR (k : Fin 3) : Memref sig .tc .vmem S32x1024 .bf16 :=
  ((Memref.whole cc0_scratch1).slice (Rect.unit (s := S3x32x1024) ![k.val, 0, 0] S1x32x1024.size (inbR k)) (fun _ => rfl)).squeeze
    S32x1024 squeezes_S1x32x1024_S32x1024
/-- The 32 rows of device `c` in a group's 128 rows. -/
abbrev chunk (c : Dev nD) : Memref sig .tc .vmem S32x1024 .bf16 :=
  (Memref.whole cc0_scratch2).slice (Rect.unit (s := S128x1024) (k0_off5 c) S32x1024.size (k0_off5_inb c)) (fun _ => rfl)
/-- All 128 rows of the group. -/
abbrev grpM : Memref sig .tc .vmem S128x1024 .bf16 := Memref.whole cc0_scratch2
/-- Slot `k` of the groups received along `y`. -/
abbrev slotY (k : Fin 3) : Memref sig .tc .vmem S128x1024 .bf16 :=
  ((Memref.whole cc0_scratch3).slice (Rect.unit (s := S3x128x1024) ![k.val, 0, 0] S1x128x1024.size (inbY k)) (fun _ => rfl)).squeeze
    S128x1024 squeezes_S1x128x1024_S128x1024
/-- Slot `k` of the groups received along `x`. -/
abbrev slotX (k : Fin 4) : Memref sig .tc .vmem S128x1024 .bf16 :=
  ((Memref.whole cc0_scratch4).slice (Rect.unit (s := S4x128x1024) ![k.val, 0, 0] S1x128x1024.size (inbX k)) (fun _ => rfl)).squeeze
    S128x1024 squeezes_S1x128x1024_S128x1024

/-! Which elements a window covers. -/

theorem set_slotS (k : Fin 3) : (slotS k).view.set = (Rect.unit (s := S3x32x1024) ![k.val, 0, 0] S1x32x1024.size (inbR k)).set :=
  (View.set_reshape _ _).trans (View.set_slice_whole _ _)
theorem set_slotR (k : Fin 3) : (slotR k).view.set = (Rect.unit (s := S3x32x1024) ![k.val, 0, 0] S1x32x1024.size (inbR k)).set :=
  (View.set_reshape _ _).trans (View.set_slice_whole _ _)
theorem set_slotY (k : Fin 3) : (slotY k).view.set = (Rect.unit (s := S3x128x1024) ![k.val, 0, 0] S1x128x1024.size (inbY k)).set :=
  (View.set_reshape _ _).trans (View.set_slice_whole _ _)
theorem set_slotX (k : Fin 4) : (slotX k).view.set = (Rect.unit (s := S4x128x1024) ![k.val, 0, 0] S1x128x1024.size (inbX k)).set :=
  (View.set_reshape _ _).trans (View.set_slice_whole _ _)
theorem set_chunk (c : Dev nD) : (chunk c).view.set = (Rect.unit (s := S128x1024) (k0_off5 c) S32x1024.size (k0_off5_inb c)).set :=
  View.set_slice_whole _ _

/-- A layer of a three-axis array, whole in the other two axes, holds the elements of that layer. -/
theorem mem_layer {n a b k : ℕ} {inb} {i : (⟨3, ![n, a, b]⟩ : Shape).Idx} :
    i ∈ (Rect.unit (s := ⟨3, ![n, a, b]⟩) ![k, 0, 0] ![1, a, b] inb).set ↔ (i 0).val = k := by
  have h1 : (i 1).val < a := (i 1).isLt
  have h2 : (i 2).val < b := (i 2).isLt
  refine Rect.mem_set_unit.trans ⟨fun h => ?_, fun h x => ?_⟩
  · have := h 0; simp at this; omega
  · match x with
    | 0 => simp; omega
    | 1 => simp; omega
    | 2 => simp; omega
/-- A band of whole rows of a two-axis array holds the elements of those rows. -/
theorem mem_rows {n b o h : ℕ} {inb} {i : (⟨2, ![n, b]⟩ : Shape).Idx} :
    i ∈ (Rect.unit (s := ⟨2, ![n, b]⟩) ![o, 0] ![h, b] inb).set ↔ o ≤ (i 0).val ∧ (i 0).val < o + h := by
  have h1 : (i 1).val < b := (i 1).isLt
  refine Rect.mem_set_unit.trans ⟨fun h => ?_, fun h x => ?_⟩
  · have := h 0; simpa using this
  · match x with
    | 0 => simpa using h
    | 1 => simp; omega

theorem mem_slotS {k : Fin 3} {i : S3x32x1024.Idx} :
    i ∈ (Rect.unit (s := S3x32x1024) ![k.val, 0, 0] S1x32x1024.size (inbR k)).set ↔ (i 0).val = k.val := mem_layer
theorem mem_slotY {k : Fin 3} {i : S3x128x1024.Idx} :
    i ∈ (Rect.unit (s := S3x128x1024) ![k.val, 0, 0] S1x128x1024.size (inbY k)).set ↔ (i 0).val = k.val := mem_layer
theorem mem_slotX {k : Fin 4} {i : S4x128x1024.Idx} :
    i ∈ (Rect.unit (s := S4x128x1024) ![k.val, 0, 0] S1x128x1024.size (inbX k)).set ↔ (i 0).val = k.val := mem_layer
theorem mem_chunk {c : Dev nD} {i : S128x1024.Idx} :
    i ∈ (Rect.unit (s := S128x1024) (k0_off5 c) S32x1024.size (k0_off5_inb c)).set ↔ (i 0).val / 32 = c.val % 4 := by
  rw [Rect.unit_congr (k0_off5_eq c) _ (by rw [← k0_off5_eq c]; exact k0_off5_inb c)]
  exact mem_rows.trans (by omega)

/-! Where a window's own index lies in its buffer. -/

/-- An index of a layer lies at that layer of the whole. -/
theorem emb_layer {n a b : ℕ} (k : Fin n) {inb} {h} (x : (⟨2, ![a, b]⟩ : Shape).Idx) :
    (Rect.unit (s := ⟨3, ![n, a, b]⟩) ![k.val, 0, 0] ![1, a, b] inb).emb
      (Shape.reshapeEquiv (s := ⟨3, ![1, a, b]⟩) (s' := ⟨2, ![a, b]⟩) h x) = ix3 k (x 0) (x 1) := by
  have hx : Shape.reshapeEquiv (s := ⟨3, ![1, a, b]⟩) (s' := ⟨2, ![a, b]⟩) h x = ix3 (⟨0, Nat.one_pos⟩ : Fin 1) (x 0) (x 1) :=
    (congrArg _ (eq_ix2 x)).trans (reshapeEquiv_ix2_1ab h (x 0) (x 1))
  refine (congrArg _ hx).trans ?_
  funext d
  match d with
  | 0 => exact Fin.ext (show k.val + 1 * 0 = k.val by omega)
  | 1 => exact Fin.ext (show 0 + 1 * (x 0).val = (x 0).val by omega)
  | 2 => exact Fin.ext (show 0 + 1 * (x 1).val = (x 1).val by omega)

theorem emb_slotS (k : Fin 3) (x : S32x1024.Idx) : (slotS k).view.emb x = ix3 k (x 0) (x 1) := emb_layer k x
theorem emb_slotR (k : Fin 3) (x : S32x1024.Idx) : (slotR k).view.emb x = ix3 k (x 0) (x 1) := emb_layer k x
theorem emb_slotY (k : Fin 3) (x : S128x1024.Idx) : (slotY k).view.emb x = ix3 k (x 0) (x 1) := emb_layer k x
theorem emb_slotX (k : Fin 4) (x : S128x1024.Idx) : (slotX k).view.emb x = ix3 k (x 0) (x 1) := emb_layer k x

end Cert.KernelIdeal.Fused

end
-- ==== Proof.Contents.lean ====
/-
What every buffer of the kernel holds, as functions of the arrays the devices were launched with: the partial sums
sent and received, each device's normalised rows, the groups of rows passed on along `y` and `x`, the result. With
them, what each store and each transfer leaves: the window it writes agrees with the function named here.
-/
module

public import proofs.«01_k».proof.Proof.Mesh

@[expose] public section

noncomputable section

namespace Cert.KernelIdeal.Fused

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The arrays as staged -/

/-- The partial sums' block of device `c`. -/
def pstg (c : Dev nD) : (cc0_stg0_0 : Ref sig .tc).ty.Contents (Elt F) :=
  (win0_0.blk (0 : Fin 1)).view.read (Elt F) (m ((c : Thread nD τ).loc main_arg0))
/-- The residual. -/
def rstg (c : Dev nD) : (cc0_stg1_0 : Ref sig .tc).ty.Contents (Elt F) :=
  (win0_1.blk (0 : Fin 1)).view.read (Elt F) (m ((c : Thread nD τ).loc main_arg1))
/-- The scale. -/
def gstg (c : Dev nD) : (cc0_stg2_0 : Ref sig .tc).ty.Contents (Elt F) :=
  (win0_2.blk (0 : Fin 1)).view.read (Elt F) (m ((c : Thread nD τ).loc main_arg2))

/-! ## The contents -/

/-- What device `c` stores for the device `k + 1` places before it along `z`: its partial rows of that device. -/
def sent (c : Dev nD) (k : Fin 3) : FVec F S1x32x1024 .bf16 :=
  k0_pay1 ((Memref.whole cc0_stg0_0).view.readAt (Elt F)
    (Rect.unit (s := S1x1024x1024) (k0_off1 c (BitVec.ofNat 32 (1 + k.val))) S1x32x1024.size (k0_off1_inb c k)).toLoadRect (pstg m c))

/-- The partial sums to be sent, slot by slot. -/
def rssC (c : Dev nD) : (cc0_scratch0 : Ref sig .tc).ty.Contents (Elt F) :=
  fun i : S3x32x1024.Idx => sent m c (i 0) (ix3 (0 : Fin 1) (i 1) (i 2))
/-- The partial sums received: slot `k` from the device `k + 1` places further along `z`. -/
def rsrC (c : Dev nD) : (cc0_scratch1 : Ref sig .tc).ty.Contents (Elt F) :=
  fun i : S3x32x1024.Idx => rssC m (zup c ((i 0).val + 1)) i

/-- Slot `k` of them, as loaded. -/
def got (c : Dev nD) (k : Fin 3) : Vec F S1x32x1024 .bf16 :=
  (Memref.whole cc0_scratch1).view.readAt (Elt F)
    (Rect.unit (s := S3x32x1024) ![k.val, 0, 0] S1x32x1024.size (inbR k)).toLoadRect (rsrC m c)
/-- The device's own partial rows and the residual's rows, added. -/
def base (c : Dev nD) : FVec F S32x1024 .bf16 :=
  k0_pay4
    ((Memref.whole cc0_stg0_0).view.readAt (Elt F)
      (Rect.unit (s := S1x1024x1024) (k0_off2 c) S1x32x1024.size (k0_off2_inb c)).toLoadRect (pstg m c))
    ((Memref.whole cc0_stg1_0).view.readAt (Elt F)
      (Rect.unit (s := S1024x1024) (k0_off3 c) S32x1024.size (k0_off3_inb c)).toLoadRect (rstg m c))
/-- The scale as loaded. -/
def gam (c : Dev nD) : Vec F S1024 .bf16 :=
  (Memref.whole cc0_stg2_0).view.readAt (Elt F) (Rect.unit (s := S1024) ![0] S1024.size inb_S1024_S1024_0).toLoadRect (gstg m c)
/-- Device `c`'s 32 normalised rows, -/
def normF (c : Dev nD) : FVec F S32x1024 .f32 := k0_pay6 (k0_pay5 (base m c) (got m c 0) (got m c 1)) (got m c 2) (gam m c)
/-- and the same rounded for the transfers. -/
def normT (c : Dev nD) : FVec F S32x1024 .bf16 := k0_pay7 (k0_pay5 (base m c) (got m c 0) (got m c 1)) (got m c 2) (gam m c)

/-- Row `r` of a group belongs to place `r / 32` along `z`, and is its row `r % 32`. -/
abbrev inRow {n : ℕ} (r : Fin n) : Fin 32 := ⟨r.val % 32, Nat.mod_lt _ (by decide)⟩

/-- The 128 normalised rows of `c`'s group. -/
def grpC (c : Dev nD) : (cc0_scratch2 : Ref sig .tc).ty.Contents (Elt F) :=
  fun i : S128x1024.Idx => normT m (atZ c ((i 0).val / 32)) (ix2 (inRow (i 0)) (i 1))
/-- The groups received along `y`. -/
def ygC (c : Dev nD) : (cc0_scratch3 : Ref sig .tc).ty.Contents (Elt F) :=
  fun i : S3x128x1024.Idx => grpC m (yup c ((i 0).val + 1)) (ix2 (n0 := 128) (n1 := 1024) (i 1) (i 2))
/-- The groups received along `x`. -/
def xgC (c : Dev nD) : (cc0_scratch4 : Ref sig .tc).ty.Contents (Elt F) :=
  fun i : S4x128x1024.Idx => grpC m (yup (flip c) (i 0).val) (ix2 (n0 := 128) (n1 := 1024) (i 1) (i 2))

/-- A rounded value widened again. -/
def wide (a : Elt F .bf16) : Elt F .f32 := k0_pay8 (F := F) (fun _ => a) (ix2 (0 : Fin 32) (0 : Fin 1024))

set_option backward.proofsInPublic true in
/-- The device whose row `r` of the result is. -/
def owner (r : Fin 1024) : Dev nD := ⟨r.val / 32, by show _ < 32; omega⟩

/-- The result on device `c`: its own rows as computed, every other row as received and widened. -/
def outC (c : Dev nD) : (cc0_stg3_0 : Ref sig .tc).ty.Contents (Elt F) :=
  fun i : S1024x1024.Idx =>
    if owner (i 0) = c then normF m c (ix2 (inRow (n := 1024) (i 0)) (i 1))
    else wide (normT m (owner (i 0)) (ix2 (inRow (n := 1024) (i 0)) (i 1)))

/-! ## Writes that agree with a function -/

section Writes
variable {sp : Space} {s : Shape} {e : EltTy}

omit [FloatOps F] in
/-- A write of what the view reads off `g` agrees with `g` on the view's elements. -/
theorem write_agree (v : View sig .tc sp s e) (f g : v.ty.Contents (Elt F)) (w : s.Idx → Elt F e)
    (h : ∀ x, w x = v.read (Elt F) g x) : ∀ i ∈ v.set, v.write (Elt F) f w Finset.univ i = g i := by
  intro i hi
  rw [show w = v.read (Elt F) g from funext h, View.write_read_eq_piecewise]
  exact Finset.piecewise_eq_of_mem _ _ _ hi

omit [FloatOps F] in
/-- Such a write extends where the contents agree with `g`. -/
theorem write_extend (v : View sig .tc sp s e) (f g : v.ty.Contents (Elt F)) (w : s.Idx → Elt F e)
    (h : ∀ x, w x = v.read (Elt F) g x) (i : v.ty.Idx) (hi : i ∈ v.set ∨ f i = g i) :
    v.write (Elt F) f w Finset.univ i = g i := by
  by_cases hv : i ∈ v.set
  · exact write_agree v f g w h i hv
  · exact (View.write_of_not_mem f w Finset.univ (by exact hv)).trans (hi.resolve_left hv)
end Writes

theorem normT_congr {d e : Dev nD} {i j : S32x1024.Idx} (hd : d = e) (hi : i = j) : normT m d i = normT m e j := by
  rw [hd, hi]
theorem grpC_congr {d e : Dev nD} {i j : S128x1024.Idx} (hd : ∀ z, atZ d z = atZ e z) (hi : i = j) : grpC m d i = grpC m e j := by
  subst hi; exact normT_congr m (hd _) rfl
theorem grpC_zup (d : Dev nD) (k : ℕ) : grpC m (zup d k) = grpC m d := funext fun i => grpC_congr m (fun z => atZ_zup d k z) rfl

/-! ## The transfers -/

theorem src_tgt (t : Tr) (c : Dev nD) : src t (tgt t c) = c := (from' t).apply_symm_apply c
theorem tgt_src (t : Tr) (c : Dev nD) : tgt t (src t c) = c := (from' t).symm_apply_apply c

/-- Slot `k` as it lands: the sender's slot `k` is what the receiver's slot `k` is to hold. -/
theorem read_rs (c : Dev nD) (k : Fin 3) (x : S32x1024.Idx) :
    (slotS k).view.read (Elt F) (rssC m c) x = (slotR k).view.read (Elt F) (rsrC m (tgt (.rs k) c)) x := by
  show rssC m c ((slotS k).view.emb x) = rsrC m (tgt (.rs k) c) ((slotR k).view.emb x)
  rw [emb_slotS, emb_slotR]
  exact congrArg (fun d => rssC m d (ix3 k (x 0) (x 1))) (src_tgt (.rs k) c).symm
theorem read_ag (c : Dev nD) (k : Fin 3) (x : S32x1024.Idx) :
    (chunk c).view.read (Elt F) (grpC m c) x = (chunk c).view.read (Elt F) (grpC m (tgt (.ag k) c)) x := by
  rw [show grpC m (tgt (.ag k) c) = grpC m c from grpC_zup m c _]
theorem read_yg (c : Dev nD) (k : Fin 3) (x : S128x1024.Idx) :
    grpM.view.read (Elt F) (grpC m c) x = (slotY k).view.read (Elt F) (ygC m (tgt (.yg k) c)) x := by
  show grpC m c x = ygC m (tgt (.yg k) c) ((slotY k).view.emb x)
  rw [emb_slotY]
  exact (congrArg (fun d => grpC m d x) (src_tgt (.yg k) c).symm).trans (congrArg (grpC m _) (eq_ix2 x))
theorem read_x0 (c : Dev nD) (x : S128x1024.Idx) :
    grpM.view.read (Elt F) (grpC m c) x = (slotX 0).view.read (Elt F) (xgC m (tgt (.xs 0) c)) x := by
  show grpC m c x = xgC m (tgt (.xs 0) c) ((slotX 0).view.emb x)
  rw [emb_slotX]
  refine (congrArg (fun d => grpC m d x) ?_).trans (congrArg (grpC m _) (eq_ix2 x))
  exact ((yup_zero _).trans (src_tgt (.xs 0) c)).symm
theorem read_xs (c : Dev nD) (k : Fin 3) (x : S128x1024.Idx) :
    (slotY k).view.read (Elt F) (ygC m c) x = (slotX k.succ).view.read (Elt F) (xgC m (tgt (.xs k.succ) c)) x := by
  show ygC m c ((slotY k).view.emb x) = xgC m (tgt (.xs k.succ) c) ((slotX k.succ).view.emb x)
  rw [emb_slotY, emb_slotX]
  exact congrArg (fun d => grpC m (yup d (k.val + 1)) (ix2 (n0 := 128) (n1 := 1024) (x 0) (x 1))) (src_tgt (.xs k.succ) c).symm

/-! ## The stores -/

/-- An index into a layer of three axes, at that layer. -/
theorem layer_emb {n a b : ℕ} (k : Fin n) {inb} (x : (⟨3, ![1, a, b]⟩ : Shape).Idx) :
    (Rect.unit (s := ⟨3, ![n, a, b]⟩) ![k.val, 0, 0] ![1, a, b] inb).emb x = ix3 k (x 1) (x 2) := by
  have h0 : (x 0).val < 1 := (x 0).isLt
  funext d
  match d with
  | 0 => exact Fin.ext (show k.val + 1 * (x 0).val = k.val by omega)
  | 1 => exact Fin.ext (show 0 + 1 * (x 1).val = (x 1).val by omega)
  | 2 => exact Fin.ext (show 0 + 1 * (x 2).val = (x 2).val by omega)

/-- The one layer's index from its other two coordinates. -/
theorem eq_layer {a b : ℕ} (x : (⟨3, ![1, a, b]⟩ : Shape).Idx) : ix3 (n0 := 1) (n1 := a) (n2 := b) 0 (x 1) (x 2) = x := by
  have h0 : (x 0).val < 1 := (x 0).isLt
  funext d
  match d with
  | 0 => exact Fin.ext (show 0 = (x 0).val by omega)
  | 1 => rfl
  | 2 => rfl

theorem store_rs (c : Dev nD) (k : Fin 3) (x : S1x32x1024.Idx) :
    sent m c k x = ((Memref.whole cc0_scratch0).access
      (Rect.unit (s := S3x32x1024) ![k.val, 0, 0] S1x32x1024.size (inbR k))).read (Elt F) (rssC m c) x := by
  show _ = rssC m c ((Rect.unit (s := S3x32x1024) ![k.val, 0, 0] S1x32x1024.size (inbR k)).emb x)
  refine ((congrArg (rssC m c) (layer_emb k x)).trans ?_).symm
  exact congrArg (sent m c k) (eq_layer x)

/-- An index into a band of rows, at the band's first row `o`. -/
theorem band_emb {n b h o : ℕ} {inb} (x : (⟨2, ![h, b]⟩ : Shape).Idx) (hlt : o + (x 0).val < n) :
    (Rect.unit (s := ⟨2, ![n, b]⟩) ![o, 0] ![h, b] inb).emb x = ix2 ⟨o + (x 0).val, hlt⟩ (x 1) := by
  funext d
  match d with
  | 0 => exact Fin.ext (show o + 1 * (x 0).val = o + (x 0).val by omega)
  | 1 => exact Fin.ext (show 0 + 1 * (x 1).val = (x 1).val by omega)

/-- The same at offsets given by an equation. -/
theorem band_emb' {n b h o : ℕ} {off : Fin 2 → ℕ} (ho : off = ![o, 0]) {inb} (x : (⟨2, ![h, b]⟩ : Shape).Idx)
    (hlt : o + (x 0).val < n) :
    (Rect.unit (s := ⟨2, ![n, b]⟩) off ![h, b] inb).emb x = ix2 ⟨o + (x 0).val, hlt⟩ (x 1) := by
  subst ho; exact band_emb x hlt

theorem grpC_band (c e : Dev nD) (he : atZ c (e.val % 4) = e) (x : S32x1024.Idx) (hlt : 32 * (e.val % 4) + (x 0).val < 128) :
    grpC m c (ix2 ⟨32 * (e.val % 4) + (x 0).val, hlt⟩ (x 1)) = normT m e x := by
  have hx : (x 0).val < 32 := (x 0).isLt
  refine normT_congr m ?_ ?_
  · show atZ c ((32 * (e.val % 4) + (x 0).val) / 32) = e
    rw [show (32 * (e.val % 4) + (x 0).val) / 32 = e.val % 4 by omega, he]
  · refine Eq.trans ?_ (eq_ix2 x).symm
    congr 1
    exact Fin.ext (show (32 * (e.val % 4) + (x 0).val) % 32 = (x 0).val by omega)

theorem atZ_self (c : Dev nD) : atZ c (c.val % 4) = c := by apply Fin.ext; simp only [atZ]; omega
theorem atZ_zup_self (c : Dev nD) (k : ℕ) : atZ c ((zup c k).val % 4) = zup c k := by
  apply Fin.ext; simp only [atZ, zup]; omega

theorem store_grp (c : Dev nD) (x : S32x1024.Idx) :
    normT m c x = ((Memref.whole cc0_scratch2).access
      (Rect.unit (s := S128x1024) (k0_off4 c) S32x1024.size (k0_off4_inb c))).read (Elt F) (grpC m c) x := by
  have hx : (x 0).val < 32 := (x 0).isLt
  show _ = grpC m c ((Rect.unit (s := S128x1024) (k0_off4 c) S32x1024.size (k0_off4_inb c)).emb x)
  exact ((congrArg (grpC m c) (band_emb' (k0_off4_eq c) x (by omega))).trans (grpC_band m c c (atZ_self c) x _)).symm

/-! ### The result's rows -/

theorem outC_own (c : Dev nD) (x : S32x1024.Idx) (hlt : 32 * c.val + (x 0).val < 1024) :
    outC m c (ix2 ⟨32 * c.val + (x 0).val, hlt⟩ (x 1)) = normF m c x := by
  have hx : (x 0).val < 32 := (x 0).isLt
  refine (if_pos ?_).trans (congrArg (normF m c) ?_)
  · exact Fin.ext (show (32 * c.val + (x 0).val) / 32 = c.val by omega)
  · refine Eq.trans ?_ (eq_ix2 x).symm
    congr 1
    exact Fin.ext (show (32 * c.val + (x 0).val) % 32 = (x 0).val by omega)
theorem outC_of_ne (c e : Dev nD) (he : e ≠ c) (r : Fin 32) (j : Fin 1024) (hlt : 32 * e.val + r.val < 1024) :
    outC m c (ix2 ⟨32 * e.val + r.val, hlt⟩ j) = wide (normT m e (ix2 r j)) := by
  have ho : owner ⟨32 * e.val + r.val, hlt⟩ = e := Fin.ext (show (32 * e.val + r.val) / 32 = e.val by omega)
  refine (if_neg fun h => he (ho.symm.trans h)).trans (congrArg wide (normT_congr m ho ?_))
  congr 1
  exact Fin.ext (show (32 * e.val + r.val) % 32 = r.val by omega)

theorem store_own (c : Dev nD) (x : S32x1024.Idx) :
    normF m c x = ((Memref.whole cc0_stg3_0).access
      (Rect.unit (s := S1024x1024) (k0_off3 c) S32x1024.size (k0_off3_inb c))).read (Elt F) (outC m c) x := by
  have hx : (x 0).val < 32 := (x 0).isLt
  have hc : c.val < 32 := c.isLt
  show _ = outC m c ((Rect.unit (s := S1024x1024) (k0_off3 c) S32x1024.size (k0_off3_inb c)).emb x)
  exact ((congrArg (outC m c) (band_emb' (off3_eq c) x (by omega))).trans (outC_own m c x _)).symm

/-- What is loaded of the group's rows from device `src (.ag k) c`. -/
def agIn (c : Dev nD) (k : Fin 3) : Vec F S32x1024 .bf16 :=
  (Memref.whole cc0_scratch2).view.readAt (Elt F)
    (Rect.unit (s := S128x1024) (k0_off6 c (BitVec.ofNat 32 k.val)) S32x1024.size (k0_off6_inb c k)).toLoadRect (grpC m c)

theorem agIn_eq (c : Dev nD) (k : Fin 3) (x : S32x1024.Idx) : agIn m c k x = normT m (src (.ag k) c) x := by
  have hx : (x 0).val < 32 := (x 0).isLt
  show grpC m c ((Rect.unit (s := S128x1024) (k0_off6 c (BitVec.ofNat 32 k.val)) S32x1024.size (k0_off6_inb c k)).emb x) = _
  exact (congrArg (grpC m c) (band_emb' (off6_eq c k) x (by omega))).trans (grpC_band m c _ (atZ_zup_self c _) x _)

theorem src_ag_ne (c : Dev nD) (k : Fin 3) : src (.ag k) c ≠ c := fun h => by
  have := congrArg Fin.val h
  have hz : (src (.ag k) c).val = 4 * (c.val / 4) + (c.val % 4 + (k.val + 1)) % 4 := rfl
  have := k.isLt
  omega

theorem pay8_apply (v : Vec F S32x1024 .bf16) (x : S32x1024.Idx) : k0_pay8 v x = wide (v x) := rfl

theorem store_ag (c : Dev nD) (k : Fin 3) (x : S32x1024.Idx) :
    k0_pay8 (agIn m c k) x = ((Memref.whole cc0_stg3_0).access
      (Rect.unit (s := S1024x1024) (k0_off7 c (BitVec.ofNat 32 k.val)) S32x1024.size (k0_off7_inb c k))).read (Elt F) (outC m c) x := by
  have hx : (x 0).val < 32 := (x 0).isLt
  have hc : (src (.ag k) c).val < 32 := (src (.ag k) c).isLt
  rw [pay8_apply, agIn_eq]
  show _ = outC m c ((Rect.unit (s := S1024x1024) (k0_off7 c (BitVec.ofNat 32 k.val)) S32x1024.size (k0_off7_inb c k)).emb x)
  refine ((congrArg (outC m c) (band_emb' (off7_eq c k) x (by omega))).trans ?_).symm
  refine (outC_of_ne m c _ (src_ag_ne c k) (x 0) (x 1) _).trans (congrArg wide ?_)
  exact (congrArg (normT m _) (eq_ix2 x)).symm

/-- The rows of a whole group not `c`'s own, in the result. -/
theorem outC_group (c d : Dev nD) (hd : c.val / 4 ≠ d.val / 4) (x : S128x1024.Idx) (hlt : 128 * (d.val / 4) + (x 0).val < 1024) :
    outC m c (ix2 ⟨128 * (d.val / 4) + (x 0).val, hlt⟩ (x 1)) = wide (grpC m d x) := by
  have hx : (x 0).val < 128 := (x 0).isLt
  have hz : (atZ d ((x 0).val / 32)).val = 4 * (d.val / 4) + (x 0).val / 32 % 4 := rfl
  refine Eq.trans ?_ (outC_of_ne m c (atZ d ((x 0).val / 32)) (fun h => hd ?_) (inRow (n := 128) (x 0)) (x 1) ?_)
  · refine congrArg (outC m c) ?_
    congr 1
    refine Fin.ext (show 128 * (d.val / 4) + (x 0).val = 32 * (atZ d ((x 0).val / 32)).val + (x 0).val % 32 from ?_)
    omega
  · have := congrArg Fin.val h; omega
  · show 32 * (atZ d ((x 0).val / 32)).val + (x 0).val % 32 < 1024
    omega

/-- Widening the one layer of a loaded slot. -/
theorem wide_layer (v : Vec F S1x128x1024 .bf16) (x : S128x1024.Idx) :
    k0_pay11 v x = wide (v (ix3 (0 : Fin 1) (x 0) (x 1))) := by
  show wide (shapeCast S128x1024 v shapeCasts_S1x128x1024_S128x1024 x) = _
  exact congrArg wide ((congrArg _ (eq_ix2 x)).trans (shapeCast_1ab_ab_apply v shapeCasts_S1x128x1024_S128x1024 (x 0) (x 1)))

/-- Slot `k` of the groups received along `y`, as loaded. -/
def ygIn (c : Dev nD) (k : Fin 3) : Vec F S1x128x1024 .bf16 :=
  (Memref.whole cc0_scratch3).view.readAt (Elt F)
    (Rect.unit (s := S3x128x1024) ![k.val, 0, 0] S1x128x1024.size (inbY k)).toLoadRect (ygC m c)
/-- Slot `k` of the groups received along `x`, as loaded. -/
def xgIn (c : Dev nD) (k : Fin 4) : Vec F S1x128x1024 .bf16 :=
  (Memref.whole cc0_scratch4).view.readAt (Elt F)
    (Rect.unit (s := S4x128x1024) ![k.val, 0, 0] S1x128x1024.size (inbX k)).toLoadRect (xgC m c)

theorem ygIn_eq (c : Dev nD) (k : Fin 3) (x : S128x1024.Idx) :
    ygIn m c k (ix3 (0 : Fin 1) (x 0) (x 1)) = grpC m (src (.yg k) c) x := by
  show ygC m c ((Rect.unit (s := S3x128x1024) ![k.val, 0, 0] S1x128x1024.size (inbY k)).emb (ix3 (0 : Fin 1) (x 0) (x 1))) = _
  exact (congrArg (ygC m c) (layer_emb k _)).trans (congrArg (grpC m _) (eq_ix2 x)).symm
theorem xgIn_eq (c : Dev nD) (k : Fin 4) (x : S128x1024.Idx) :
    xgIn m c k (ix3 (0 : Fin 1) (x 0) (x 1)) = grpC m (yup (flip c) k.val) x := by
  show xgC m c ((Rect.unit (s := S4x128x1024) ![k.val, 0, 0] S1x128x1024.size (inbX k)).emb (ix3 (0 : Fin 1) (x 0) (x 1))) = _
  exact (congrArg (xgC m c) (layer_emb k _)).trans (congrArg (grpC m _) (eq_ix2 x)).symm

theorem store_yg (c : Dev nD) (k : Fin 3) (x : S128x1024.Idx) :
    k0_pay11 (ygIn m c k) x = ((Memref.whole cc0_stg3_0).access
      (Rect.unit (s := S1024x1024) (k0_off8 c (BitVec.ofNat 32 k.val)) S128x1024.size (k0_off8_inb c k))).read (Elt F) (outC m c) x := by
  have hx : (x 0).val < 128 := (x 0).isLt
  have hc : c.val < 32 := c.isLt
  have hs : (src (.yg k) c).val = 16 * (c.val / 16) + 4 * ((c.val / 4 % 4 + (k.val + 1)) % 4) + c.val % 4 := rfl
  have hk := k.isLt
  show _ = outC m c ((Rect.unit (s := S1024x1024) (k0_off8 c (BitVec.ofNat 32 k.val)) S128x1024.size (k0_off8_inb c k)).emb x)
  rw [wide_layer, ygIn_eq]
  exact ((congrArg (outC m c) (band_emb' (off8_eq c k) x (by omega))).trans (outC_group m c _ (by omega) x _)).symm

theorem store_x0 (c : Dev nD) (x : S128x1024.Idx) :
    k0_pay11 (xgIn m c 0) x = ((Memref.whole cc0_stg3_0).access
      (Rect.unit (s := S1024x1024) (k0_off9 c) S128x1024.size (k0_off9_inb c))).read (Elt F) (outC m c) x := by
  have hx : (x 0).val < 128 := (x 0).isLt
  have hc : c.val < 32 := c.isLt
  have hs : (flip c).val = (c.val + 16) % 32 := rfl
  show _ = outC m c ((Rect.unit (s := S1024x1024) (k0_off9 c) S128x1024.size (k0_off9_inb c)).emb x)
  rw [wide_layer, xgIn_eq, show (yup (flip c) (0 : Fin 4).val) = flip c from yup_zero _]
  exact ((congrArg (outC m c) (band_emb' (off9_eq c) x (by omega))).trans (outC_group m c _ (by omega) x _)).symm

theorem store_xs (c : Dev nD) (k : Fin 3) (x : S128x1024.Idx) :
    k0_pay11 (xgIn m c k.succ) x = ((Memref.whole cc0_stg3_0).access
      (Rect.unit (s := S1024x1024) (k0_off10 c (BitVec.ofNat 32 k.val)) S128x1024.size (k0_off10_inb c k))).read (Elt F) (outC m c) x := by
  have hx : (x 0).val < 128 := (x 0).isLt
  have hc : c.val < 32 := c.isLt
  have hs : (yup (flip c) (k.val + 1)).val
      = 16 * ((c.val + 16) % 32 / 16) + 4 * (((c.val + 16) % 32 / 4 % 4 + (k.val + 1)) % 4) + (c.val + 16) % 32 % 4 := rfl
  have hk := k.isLt
  show _ = outC m c ((Rect.unit (s := S1024x1024) (k0_off10 c (BitVec.ofNat 32 k.val)) S128x1024.size (k0_off10_inb c k)).emb x)
  rw [wide_layer, xgIn_eq, Fin.val_succ]
  exact ((congrArg (outC m c) (band_emb' (off10_eq c k) x (by omega))).trans (outC_group m c _ (by omega) x _)).symm

end Cert.KernelIdeal.Fused

end
-- ==== Proof.Sched.lean ====
/-
The protocol of the kernel. Every semaphore cell is used for one round: the barrier cell of a device counts the seven
devices that have entered, the two cells of a transfer count its bytes out and in. What a count stands for is written
here: entering hands over the windows the entered device will receive into, a receive hands over the window with its
contents, a send hands back what was lent. With it, what a device still owes at each point of its program, and the
levels that let it wait.
-/
module

public import proofs.«01_k».proof.Proof.Contents
public import Idealize.ShloMosaic.Lib.Transfers

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## Resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The kinds of cell: the barrier, a transfer's send cell, its receive cell. -/
inductive Ck where
  | bar
  | snd (t : Tr)
  | rcv (t : Tr)
  deriving DecidableEq

def cks : List Ck := .bar :: (trs.map .snd ++ trs.map .rcv)
theorem cks_nodup : cks.Nodup := by decide
theorem mem_cks (k : Ck) : k ∈ cks := by
  cases k with
  | bar => exact List.mem_cons_self
  | snd t => exact List.mem_cons_of_mem _ (List.mem_append_left _ (List.mem_map_of_mem (mem_trs t)))
  | rcv t => exact List.mem_cons_of_mem _ (List.mem_append_right _ (List.mem_map_of_mem (mem_trs t)))
instance : Fintype Ck := ⟨⟨cks, cks_nodup⟩, mem_cks⟩

abbrev barS : Sem sig := (SemArray.scalar (sig.barrier 0 rfl) : Sems sig S_).sem

set_option backward.proofsInPublic true in
def sendQ : Tr → DmaSem sig
  | .rs k => (⟨4 + k.val, by omega⟩ : Fin 30)
  | .ag k => (⟨10 + k.val, by omega⟩ : Fin 30)
  | .yg k => (⟨16 + k.val, by omega⟩ : Fin 30)
  | .xs k => (⟨22 + k.val, by omega⟩ : Fin 30)
set_option backward.proofsInPublic true in
def recvQ : Tr → DmaSem sig
  | .rs k => (⟨7 + k.val, by omega⟩ : Fin 30)
  | .ag k => (⟨13 + k.val, by omega⟩ : Fin 30)
  | .yg k => (⟨19 + k.val, by omega⟩ : Fin 30)
  | .xs k => (⟨26 + k.val, by omega⟩ : Fin 30)

/-- The semaphore of a kind of cell, -/
def csem : Ck → SemLoc sig
  | .bar => .reg barS
  | .snd t => .dma (sendQ t)
  | .rcv t => .dma (recvQ t)
/-- and the kind of a semaphore. -/
def kindOf (s : SemLoc sig) : Option Ck := cks.find? fun k => decide (csem k = s)

theorem kindOf_csem : ∀ k : Ck, kindOf (csem k) = some k := by decide +kernel
theorem csem_inj {k k' : Ck} (h : csem k = csem k') : k = k' :=
  Option.some.inj ((kindOf_csem k).symm.trans ((congrArg kindOf h).trans (kindOf_csem k')))

abbrev kcell (d : Dev nD) (k : Ck) : GSem nD τ sig := ((d : Thread nD τ), csem k)
theorem kcell_inj {d d' : Dev nD} {k k' : Ck} (h : kcell d k = kcell d' k') : d = d' ∧ k = k' :=
  ⟨congrArg (fun g : GSem nD τ sig => g.1.1) h, csem_inj (congrArg Prod.snd h)⟩

/-! ## Amounts -/

/-- The credit of 32 rows, -/
abbrev nR : ℕ := (slotS 0).view.dmaCredit
/-- and of 128. -/
abbrev nG : ℕ := grpM.view.dmaCredit

def amt : Tr → ℕ
  | .rs _ => nR
  | .ag _ => nR
  | .yg _ => nG
  | .xs _ => nG
theorem amt_pos (t : Tr) : 0 < amt t := by
  cases t <;> exact View.dmaCredit_pos _ (by decide)

/-! ## What the counts stand for -/

/-- The elements of `M` on device `d`. -/
def pts {s : Shape} {e : EltTy} (d : Dev nD) (M : Memref sig .tc .vmem s e) (q : PosShare TreeShare)
    (f : Buf (Elt F) (M.view.loc (d : Thread nD τ))) : sProp 𝕄 :=
  M.view.loc (d : Thread nD τ) ↦[M.view.set]{q} f

omit [FloatOps F] in
instance pts_storable {s : Shape} {e : EltTy} (d : Dev nD) (M : Memref sig .tc .vmem s e) (q) (f) :
    BI.Storable (upEmb : UEmb _ 𝕄) (pts (F := F) d M q f) := by unfold pts; infer_instance

/-- The window of device `d` that transfer `t` writes, -/
def grant : Tr → Dev nD → sProp 𝕄
  | .rs k, d => iprop(∃ f, pts d (slotR k) fullShare f)
  | .ag k, d => iprop(∃ f, pts d (chunk (src (.ag k) d)) fullShare f)
  | .yg k, d => iprop(∃ f, pts d (slotY k) fullShare f)
  | .xs k, d => iprop(∃ f, pts d (slotX k) fullShare f)
/-- the same once written, -/
def landed : Tr → Dev nD → sProp 𝕄
  | .rs k, d => pts d (slotR k) fullShare (rsrC m d)
  | .ag k, d => pts d (chunk (src (.ag k) d)) fullShare (grpC m d)
  | .yg k, d => pts d (slotY k) fullShare (ygC m d)
  | .xs k, d => pts d (slotX k) fullShare (xgC m d)

/-- The share of its group a device keeps for the second half of the program. -/
abbrev qG : PosShare TreeShare := shareDrop fullShare 3

/-- and what device `c` lends transfer `t`. -/
def lent : Tr → Dev nD → sProp 𝕄
  | .rs k, c => pts c (slotS k) fullShare (rssC m c)
  | .ag k, c => pts c (chunk c) (shareTok fullShare 3 k) (grpC m c)
  | .yg k, c => pts c grpM (shareTok qG 3 k) (grpC m c)
  | .xs k, c => Fin.cases (motive := fun _ => sProp 𝕄) (pts c grpM (shareDrop qG 3) (grpC m c)) (fun k => pts c (slotY k) fullShare.left (ygC m c)) k

/-- Entering as the `i`-th of the seven devices `c` waits for, a device hands over the windows `c` will write. -/
def barPay (c : Dev nD) : Fin 7 → sProp 𝕄
  | 0 => iprop(grant (.rs 0) (tgt (.rs 0) c) ∗ grant (.ag 0) (tgt (.ag 0) c))
  | 1 => iprop(grant (.rs 1) (tgt (.rs 1) c) ∗ grant (.ag 1) (tgt (.ag 1) c))
  | 2 => iprop(grant (.rs 2) (tgt (.rs 2) c) ∗ grant (.ag 2) (tgt (.ag 2) c))
  | 3 => grant (.yg 0) (tgt (.yg 0) c)
  | 4 => grant (.yg 1) (tgt (.yg 1) c)
  | 5 => grant (.yg 2) (tgt (.yg 2) c)
  | 6 => iprop(grant (.xs 0) (tgt (.xs 0) c) ∗ grant (.xs 1) (tgt (.xs 1) c) ∗ grant (.xs 2) (tgt (.xs 2) c) ∗ grant (.xs 3) (tgt (.xs 3) c))

omit [FloatOps F] in
instance grant_storable (t : Tr) (d : Dev nD) : BI.Storable (upEmb : UEmb _ 𝕄) (grant (F := F) t d) := by
  cases t <;> (dsimp only [grant]; infer_instance)
instance landed_storable (t : Tr) (d : Dev nD) : BI.Storable (upEmb : UEmb _ 𝕄) (landed m t d) := by
  cases t <;> (dsimp only [landed]; infer_instance)
instance lent_storable (t : Tr) (c : Dev nD) : BI.Storable (upEmb : UEmb _ 𝕄) (lent m t c) := by
  cases t with
  | xs k => refine Fin.cases ?_ (fun k => ?_) k <;> (dsimp only [lent, Fin.cases_zero, Fin.cases_succ]; infer_instance)
  | _ => dsimp only [lent]; infer_instance
omit [FloatOps F] in
instance barPay_storable (c : Dev nD) (i : Fin 7) : BI.Storable (upEmb : UEmb _ 𝕄) (barPay (F := F) c i) := by
  fin_cases i <;> (dsimp only [barPay]; infer_instance)

/-- What duty `i` of a cell of kind `k` on device `d` hands over. -/
def kpay (d : Dev nD) : Option Ck → Fin 7 → sProp 𝕄
  | some .bar, i => barPay d i
  | some (.snd t), _ => lent m t d
  | some (.rcv t), _ => landed m t d
  | none, _ => iprop(emp)
/-- What it counts. -/
def kunit : Option Ck → ℕ
  | some (.snd t) => amt t
  | some (.rcv t) => amt t
  | _ => 1
/-- The duties of a cell. -/
def kduties : Option Ck → Finset (Fin 7)
  | some .bar => Finset.univ
  | some _ => {0}
  | none => ∅

/-- The schedule: one round, round 0. -/
def sched : Rounds.Schedule (GSem nD τ sig) (Fin 7) 𝕄 where
  duties g r := if r = 0 ∧ g.1.2 = .tc then kduties (kindOf g.2) else ∅
  unitless _ := False
  amount g _ _ := kunit (kindOf g.2)
  payload g _ i := kpay m g.1.1 (kindOf g.2) i
  amount_pos g _ _ _ := by
    rcases kindOf g.2 with _ | _ | t | t
    · exact Nat.one_pos
    · exact Nat.one_pos
    · exact amt_pos t
    · exact amt_pos t

instance sched_storable (g : GSem nD τ sig) (r : ℕ) (i : Fin 7) :
    BI.Storable (upEmb : UEmb _ 𝕄) ((sched (F := F) m).payload g r i) := by
  show BI.Storable upEmb (kpay m g.1.1 (kindOf g.2) i)
  rcases kindOf g.2 with _ | _ | t | t <;> (dsimp only [kpay]; infer_instance)

section Facts
variable (d : Dev nD) (k : Ck)

theorem duties_k : (sched (F := F) m).duties (kcell d k) 0 = kduties (some k) := by
  dsimp only [sched]; rw [if_pos ⟨rfl, rfl⟩, kindOf_csem]
theorem duties_later (g : GSem nD τ sig) : ∀ r, 1 ≤ r → (sched (F := F) m).duties g r = ∅ :=
  fun r hr => by dsimp only [sched]; rw [if_neg fun h => by omega]
theorem amount_k (i : Fin 7) : (sched (F := F) m).amount (kcell d k) 0 i = kunit (some k) := by
  dsimp only [sched]; rw [kindOf_csem]
theorem payload_k (i : Fin 7) : (sched (F := F) m).payload (kcell d k) 0 i = kpay m d (some k) i := by
  dsimp only [sched]; rw [kindOf_csem]

/-- What a cell expects in all. -/
def kamt : Ck → ℕ
  | .bar => 7
  | .snd t => amt t
  | .rcv t => amt t

theorem expect_k : (sched (F := F) m).expect (kcell d k) 0 = kamt k := by
  unfold Schedule.expect Schedule.amountOf
  rw [duties_k, Finset.sum_congr rfl fun i _ => amount_k m d k i, Finset.sum_const, smul_eq_mul]
  cases k
  · rfl
  · exact Nat.one_mul _
  · exact Nat.one_mul _

/-- A transfer cell hands over its one payload, -/
theorem rest_snd (t : Tr) : bigSep ((sched (F := F) m).duties (kcell d (.snd t)) 0 \ ∅) (fun i => (sched (F := F) m).payload (kcell d (.snd t)) 0 i)
    = lent m t d := by
  rw [Finset.sdiff_empty, duties_k]; exact bigSep_singleton.trans (payload_k m d (.snd t) 0)
theorem rest_rcv (t : Tr) : bigSep ((sched (F := F) m).duties (kcell d (.rcv t)) 0 \ ∅) (fun i => (sched (F := F) m).payload (kcell d (.rcv t)) 0 i)
    = landed m t d := by
  rw [Finset.sdiff_empty, duties_k]; exact bigSep_singleton.trans (payload_k m d (.rcv t) 0)
/-- the barrier cell its seven. -/
theorem rest_bar : bigSep ((sched (F := F) m).duties (kcell d .bar) 0 \ ∅) (fun i => (sched (F := F) m).payload (kcell d .bar) 0 i)
    = iprop(barPay d 0 ∗ barPay d 1 ∗ barPay d 2 ∗ barPay d 3 ∗ barPay d 4 ∗ barPay d 5 ∗ barPay (F := F) d 6) := by
  rw [Finset.sdiff_empty, duties_k, bigSep_congr (fun i _ => payload_k m d .bar i)]
  exact bigSep_univ_eq_bigSepL ([0, 1, 2, 3, 4, 5, 6] : List (Fin 7)) (by decide) (by decide) _

end Facts

/-! ## What is owed -/

/-- The payments a device makes: it enters at a peer, or a transfer's bytes arrive. -/
inductive Pay where
  | bar (i : Fin 7)
  | cp (t : Tr)
  deriving DecidableEq

/-- Where payment `p` of device `c` goes: the device and the kind of cell, -/
def pdev (c : Dev nD) : Pay → Dev nD
  | .bar i => peer i c
  | .cp t => tgt t c
def pkind : Pay → Ck
  | .bar _ => .bar
  | .cp t => .rcv t
/-- and how much it is. -/
def pamt : Pay → ℕ
  | .bar _ => 1
  | .cp t => amt t

abbrev pcell (c : Dev nD) (p : Pay) : GSem nD τ sig := kcell (pdev c p) (pkind p)

/-- What device `c` owes while the payments `l` are ahead of it. -/
def owedL (c : Dev nD) : List Pay → CellTallies nD τ sig Unit
  | [] => 0
  | p :: l => owedL c l + tallyAt (pcell c p) () (pamt p)

/-- The transfers' payments, -/
abbrev cps : List Pay := trs.map .cp
/-- and all of them, in program order. -/
abbrev pays : List Pay := [.bar 0, .bar 1, .bar 2, .bar 3, .bar 4, .bar 5, .bar 6] ++ cps

theorem owedL_pos {c : Dev nD} {l : List Pay} {g : GSem nD τ sig} {u : Unit} (h : 0 < owedL c l g u) : ∃ p ∈ l, g = pcell c p := by
  induction l with
  | nil => exact absurd h (Nat.lt_irrefl 0)
  | cons p l ih =>
    unfold owedL at h
    rw [Pi.add_apply, Finsupp.add_apply, tallyAt_apply] at h
    by_cases hp : g = pcell c p ∧ u = ()
    · exact ⟨p, List.mem_cons_self, hp.1⟩
    · rw [if_neg hp, Nat.add_zero] at h
      obtain ⟨p', hm, he⟩ := ih h
      exact ⟨p', List.mem_cons_of_mem _ hm, he⟩

/-! ## Levels -/

/-- The level of a kind of cell: barriers below the four phases' receive cells, those in the program's order. -/
def klev : Ck → ℕ
  | .bar => 1
  | .snd _ => 0
  | .rcv (.rs _) => 2
  | .rcv (.ag _) => 3
  | .rcv (.yg _) => 4
  | .rcv (.xs _) => 5

def L (g : GSem nD τ sig) : Finset Unit := if g.1.2 = .tc then {()} else ∅
def lv (g : GSem nD τ sig) (_ : Unit) : ℕ := (kindOf g.2).elim 0 klev

theorem L_of_ne (g : GSem nD τ sig) (h : g.1.2 ≠ .tc) : L g = ∅ := if_neg h
theorem L_tc (c : Dev nD) (s : SemLoc sig) : L ((c : Thread nD τ), s) = {()} := if_pos rfl
theorem lv_k (d : Dev nD) (k : Ck) (u : Unit) : lv (kcell d k) u = klev k := by
  show (kindOf (csem k)).elim 0 klev = klev k
  rw [kindOf_csem]; rfl

omit [FloatOps F] in
/-- A device may wait at a cell below everything it owes. -/
theorem mayWait (c : Dev nD) (s : SemLoc sig) (l : List Pay) (n : ℕ) (hs : lv ((c : Thread nD τ), s) () = n) (hl : ∀ p ∈ l, n < klev (pkind p)) :
    (levAts L lv : sProp 𝕄) ⊢ MayWait (c : Thread nD τ) s () (owedL c l) :=
  MayOwe.of_cut (L := L) (lev := lv) n (fun p hp => by rw [Finset.mem_singleton.mp hp, L_tc]; exact Finset.mem_singleton_self _)
    (fun g u hg => by obtain ⟨p, -, rfl⟩ := owedL_pos hg; rw [L_tc]; exact Finset.mem_singleton_self _)
    (fun p hp => by rw [Finset.mem_singleton.mp hp]; exact hs.le)
    (fun g u hg => by obtain ⟨p, hp, rfl⟩ := owedL_pos hg; rw [lv_k]; exact hl p hp)

end Cert.KernelIdeal.Fused

end
-- ==== Proof.Steps.lean ====
/-
The steps of a device's program that involve other devices, each as one rule: entering at a peer, waiting until all
seven peers have entered, a transfer, the wait for what arrives and the wait for what was lent.
-/
module

public import proofs.«01_k».proof.Proof.Sched

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

variable (m : (ℓ : Loc nD τ sig) → Buf (Elt F) ℓ)
variable (K : Dev nD × Ck → ℕ)

/-! ## What the steps take -/

/-- The facts every device may use: all cells' invariants, their first rounds reached, the levels. -/
def facts : sProp 𝕄 :=
  iprop((bigSep Finset.univ fun x : Dev nD × Ck => cellInv ER (sched m) (K x) (kcell x.1 x.2))
    ∗ (bigSep Finset.univ fun x : Dev nD × Ck => reached ER (kcell x.1 x.2) 0) ∗ levAts L lv)

instance facts_persistent : BI.Persistent (facts m K) := by unfold facts; infer_instance

theorem facts_inv (d : Dev nD) (k : Ck) : facts m K ⊢ cellInv ER (sched m) (K (d, k)) (kcell d k) := by
  have h : (bigSep Finset.univ fun x : Dev nD × Ck => (cellInv ER (sched m) (K x) (kcell x.1 x.2) : sProp 𝕄)) ⊢ cellInv ER (sched m) (K (d, k)) (kcell d k) :=
    bigSep_elim (Finset.mem_univ (d, k))
  unfold facts; iintro ⟨H, -, -⟩
  iapply h; iexact H
theorem facts_reached (d : Dev nD) (k : Ck) : facts m K ⊢ reached ER (kcell d k) 0 := by
  have h : (bigSep Finset.univ fun x : Dev nD × Ck => (reached ER (kcell x.1 x.2) 0 : sProp 𝕄)) ⊢ reached ER (kcell d k) 0 :=
    bigSep_elim (Finset.mem_univ (d, k))
  unfold facts; iintro ⟨-, H, -⟩
  iapply h; iexact H
theorem facts_lev : facts m K ⊢ levAts L lv := by
  unfold facts; iintro ⟨-, -, H⟩; iexact H

set_option maxRecDepth 20000 in
/-- A device may wait at a cell of its own below everything it owes. -/
theorem facts_wait (c : Dev nD) (k : Ck) (l : List Pay) (hl : ∀ p ∈ l, klev k < klev (pkind p)) :
    facts m K ⊢ MayWait (c : Thread nD τ) (csem k) () (owedL c l) :=
  (facts_lev m K).trans (mayWait c (csem k) l (klev k) (lv_k c k ()) hl)

/-- The payments `l` are ahead. -/
def owe (c : Dev nD) (l : List Pay) : sProp 𝕄 := iprop(∃ W, owes (c : Thread nD τ) (owedL c l) W)
/-- The right to wait for all of a cell of one's own. -/
def ticket (c : Dev nD) (k : Ck) : sProp 𝕄 := iprop(atPos ER (kcell c k) 0 ∅ 0 ∗ cred (tallyAt (kcell c k) () (kamt k)))
/-- The right to start transfer `t`. -/
def sendTok (t : Tr) (c : Dev nD) : sProp 𝕄 :=
  iprop(atPos ER (kcell c (.snd t)) 0 ∅ 0 ∗ dutyTok ER (kcell c (.snd t)) 0 (0 : Fin 7) ∗ dutyTok ER (kcell (tgt t c) (.rcv t)) 0 (0 : Fin 7))
/-- The right to enter at the `i`-th peer. -/
def barTok (i : Fin 7) (c : Dev nD) : sProp 𝕄 := dutyTok ER (kcell (peer i c) .bar) 0 i
/-- A cell's counter at zero again. -/
abbrev done (c : Dev nD) (k : Ck) : sProp 𝕄 := semVal (kcell c k) 0

/-- The program of device `c` from here on. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

/-! ## Entering -/

set_option maxRecDepth 20000 in
theorem enter_step (c n : Dev nD) (i : Fin 7) (hn : n = peer i c) (l : List Pay) :
    facts m K ⊢ iprop(barTok i c -∗ barPay (peer i c) i -∗ owe c (.bar i :: l) -∗ (owe c l -∗ run c (k ⟨⟩) Q)
      -∗ run c (.op (.semSignal (Dev.tc n : Thread nD τ) barS 1) k) Q) := by
  subst hn
  unfold owe barTok
  iintro #HF Ht Hp ⟨%W, HO⟩ Hk
  iapply (Rounds.wp_signal 𝒱₀ ER (sched m) (c : Thread nD τ) none (dst := (peer i c : Thread nD τ)) (κ := K (peer i c, .bar))
      (d := i) (show i ∈ (sched m).duties (kcell (peer i c) .bar) 0 from by rw [duties_k]; exact Finset.mem_univ _)
      (amount_k m (peer i c) .bar i) () (owedL c l) rfl) $$ [HO Ht Hp]
  · isplitr; · iapply (facts_inv m K (peer i c) .bar); iexact HF
    isplitl [HO]; · iexact HO
    isplitl [Ht]; · iexact Ht
    isplitl [Hp]
    · iapply (Entails.of_eq (show barPay (peer i c) i = (sched m).payload ((peer i c : Thread nD τ), .reg barS) 0 i from (payload_k m (peer i c) .bar i).symm)); iexact Hp
    iapply (facts_reached m K (peer i c) .bar); iexact HF
  iintro HO
  iapply Hk
  iexists W; iexact HO

/-- All seven have entered: their windows are `c`'s to write. -/
theorem entered_step (c : Dev nD) :
    facts m K ⊢ iprop(ticket c .bar -∗ owe c cps
      -∗ ((done c .bar ∗ owe c cps ∗ barPay c 0 ∗ barPay c 1 ∗ barPay c 2 ∗ barPay c 3 ∗ barPay c 4 ∗ barPay c 5 ∗ barPay (F := F) c 6)
          -∗ run c (k ⟨⟩) Q)
      -∗ run c (.op (.semWait barS 7) k) Q) := by
  unfold owe ticket
  iintro #HF ⟨Hat, Hc⟩ ⟨%W, HO⟩ Hk
  iapply (Rounds.wp_wait_rest_token 𝒱₀ ER (sched m) (c : Thread nD τ) none (κ := K (c, .bar))
      (sm := csem .bar) (k' := 7) (fun X => wpE_semWait_eq 𝒱₀ (c : Thread nD τ) none Set.univ X) (Set.mem_univ _) () (O := owedL c cps) (W := W) (R := 0) (m := 0) (T := ∅)
      (by rw [Nat.zero_add]; exact (expect_k m c .bar).symm)) $$ [Hc HO Hat]
  · isplitr; · iapply (facts_inv m K c .bar); iexact HF
    isplitl [Hc]; · iexact Hc
    isplitl [HO]; · iexact HO
    isplitr
    · iapply (facts_wait m K c .bar cps (by decide)); iexact HF
    iexact Hat
  iintro ⟨HO, Hat, -, Hpay⟩
  ihave Hp := (Entails.of_eq (rest_bar m c)) $$ Hpay
  imod (Rounds.cell_close ER (sched m) (Set.mem_univ (K (c, .bar))) (fun h => h) (R := 0 + 1) (duties_later m (kcell c .bar))) $$ [Hat] with Hz
  · isplitr; · iapply (facts_inv m K c .bar); iexact HF
    iexact Hat
  iapply Hk
  isplitl [Hz]; · iexact Hz
  isplitl [HO]; · iexists _; iexact HO
  iexact Hp

/-! ## The waits -/

/-- Transfer `t` into `c` has arrived. -/
theorem arrive_step (t : Tr) (c : Dev nD) (l : List Pay) (hl : ∀ p ∈ l, klev (.rcv t) < klev (pkind p))
    {sp sp' : Space} {s s' : Shape} {e e' : EltTy} {sem : DmaSem sig} (hs : sem = recvQ t)
    {a : Memref sig .tc sp' s' e'} {b : Memref sig .tc sp s e} {ha : a.view.WordExact} {hb : b.view.WordExact} (hN : b.view.dmaCredit = amt t) :
    facts m K ⊢ iprop(ticket c (.rcv t) -∗ owe c l -∗ ((done c (.rcv t) ∗ owe c l ∗ landed m t c) -∗ run c (k ⟨⟩) Q)
      -∗ run c (.op (.waitDma2 sem a b ha hb) k) Q) := by
  subst hs
  unfold owe ticket
  iintro #HF ⟨Hat, Hc⟩ ⟨%W, HO⟩ Hk
  iapply (Rounds.wp_wait_rest_token 𝒱₀ ER (sched m) (c : Thread nD τ) none (κ := K (c, .rcv t)) (sm := csem (.rcv t)) (k' := amt t)
      (fun X => by rw [← hN]; exact wpE_waitDma2_eq 𝒱₀ (c : Thread nD τ) none Set.univ X) (Set.mem_univ _) () (O := owedL c l) (W := W) (R := 0) (m := 0) (T := ∅)
      (by rw [Nat.zero_add]; exact (expect_k m c (.rcv t)).symm)) $$ [Hc HO Hat]
  · isplitr; · iapply (facts_inv m K c (.rcv t)); iexact HF
    isplitl [Hc]; · iexact Hc
    isplitl [HO]; · iexact HO
    isplitr
    · iapply (facts_wait m K c (.rcv t) l hl); iexact HF
    iexact Hat
  iintro ⟨HO, Hat, -, Hpay⟩
  ihave Hp := (Entails.of_eq (rest_rcv m c t)) $$ Hpay
  imod (Rounds.cell_close ER (sched m) (Set.mem_univ (K (c, .rcv t))) (fun h => h) (R := 0 + 1) (duties_later m (kcell c (.rcv t)))) $$ [Hat] with Hz
  · isplitr; · iapply (facts_inv m K c (.rcv t)); iexact HF
    iexact Hat
  iapply Hk
  isplitl [Hz]; · iexact Hz
  isplitl [HO]; · iexists _; iexact HO
  iexact Hp

/-- What `c` lent transfer `t` is back. -/
theorem back_step (t : Tr) (c : Dev nD)
    {sp sp' : Space} {s s' : Shape} {e e' : EltTy} {sem : DmaSem sig} (hs : sem = sendQ t)
    {a : Memref sig .tc sp' s' e'} {b : Memref sig .tc sp s e} {ha : a.view.WordExact} {hb : b.view.WordExact} (hN : b.view.dmaCredit = amt t) :
    facts m K ⊢ iprop(ticket c (.snd t) -∗ owe c [] -∗ ((done c (.snd t) ∗ owe c [] ∗ lent m t c) -∗ run c (k ⟨⟩) Q)
      -∗ run c (.op (.waitDma2 sem a b ha hb) k) Q) := by
  subst hs
  unfold owe ticket
  iintro #HF ⟨Hat, Hc⟩ ⟨%W, HO⟩ Hk
  iapply (Rounds.wp_wait_rest_token 𝒱₀ ER (sched m) (c : Thread nD τ) none (κ := K (c, .snd t)) (sm := csem (.snd t)) (k' := amt t)
      (fun X => by rw [← hN]; exact wpE_waitDma2_eq 𝒱₀ (c : Thread nD τ) none Set.univ X) (Set.mem_univ _) () (O := owedL c []) (W := W) (R := 0) (m := 0) (T := ∅)
      (by rw [Nat.zero_add]; exact (expect_k m c (.snd t)).symm)) $$ [Hc HO Hat]
  · isplitr; · iapply (facts_inv m K c (.snd t)); iexact HF
    isplitl [Hc]; · iexact Hc
    isplitl [HO]; · iexact HO
    isplitr
    · iapply (facts_wait m K c (.snd t) [] (fun p hp => nomatch hp)); iexact HF
    iexact Hat
  iintro ⟨HO, Hat, -, Hpay⟩
  ihave Hp := (Entails.of_eq (rest_snd m c t)) $$ Hpay
  imod (Rounds.cell_close ER (sched m) (Set.mem_univ (K (c, .snd t))) (fun h => h) (R := 0 + 1) (duties_later m (kcell c (.snd t)))) $$ [Hat] with Hz
  · isplitr; · iapply (facts_inv m K c (.snd t)); iexact HF
    iexact Hat
  iapply Hk
  isplitl [Hz]; · iexact Hz
  isplitl [HO]; · iexists _; iexact HO
  iexact Hp

/-! ## The transfers -/

theorem mem_duty (d : Dev nD) (k : Ck) : (0 : Fin 7) ∈ (sched m).duties (kcell d k) 0 := by
  rw [duties_k]
  cases k
  · exact Finset.mem_univ _
  · exact Finset.mem_singleton_self _
  · exact Finset.mem_singleton_self _

/-- Transfer `t` of device `c`, its source lent and its destination handed over. -/
theorem send_step (t : Tr) (c n : Dev nD) (hn : n = tgt t c) (l : List Pay) {s : Shape} {e : EltTy} {sS sR : DmaSem sig} (hS : sS = sendQ t)
    (hR : sR = recvQ t) {a b : Memref sig .tc .vmem s e} {hsc : b.view.ref.isScScratch = false}
    {ha : a.view.WordExact} {hb : b.view.WordExact} {hsem : DmaTarget.Typed .vmem (.dma sR) (.remote (Dev.tc n : Thread nD τ) b (.dma sS) hsc)}
    {q : PosShare TreeShare} {fs : Buf (Elt F) (a.view.loc (c : Thread nD τ))} (fd : Buf (Elt F) (b.view.loc (tgt t c : Thread nD τ)))
    (hN : b.view.dmaCredit = amt t) (hlent : pts c a q fs ⊢ lent m t c)
    (hland : pts (tgt t c) b fullShare (b.view.write (Elt F) fd (a.view.read (Elt F) fs) Finset.univ) ⊢ landed m t (tgt t c)) :
    facts m K ⊢ iprop(sendTok t c -∗ pts c a q fs -∗ pts (tgt t c) b fullShare fd -∗ owe c (.cp t :: l)
      -∗ ((ticket c (.snd t) ∗ owe c l) -∗ run c (k ⟨⟩) Q)
      -∗ run c (.op (.enqueueDma a (.remote (Dev.tc n : Thread nD τ) b (.dma sS) hsc) (.dma sR) ha hb hsem) k) Q) := by
  subst hn hS hR
  unfold owe ticket sendTok
  iintro #HF ⟨Hat, HtS, HtR⟩ Ha Hb ⟨%W, HO⟩ Hk
  unfold pts at hlent hland
  unfold pts
  iapply (Rounds.wp_send_pointsTo 𝒱₀ ER (sched m) (c : Thread nD τ) none (κ₁ := K (c, .snd t)) (κ₂ := K (tgt t c, .rcv t))
    (r₁ := 0) (r₂ := 0) (d₁ := (0 : Fin 7)) (d₂ := (0 : Fin 7)) (fd := fd)
    (mem_duty m c (.snd t)) (mem_duty m (tgt t c) (.rcv t)) () () (amt t) (show b.view.amount (SemLoc.dma (recvQ t)) = amt t from hN) (amount_k m c (.snd t) 0) (amount_k m (tgt t c) (.rcv t) 0) (owedL c l) rfl (W := W)
    (hlent.trans (Entails.of_eq (payload_k m c (.snd t) 0).symm))
    (hland.trans (Entails.of_eq (payload_k m (tgt t c) (.rcv t) 0).symm))) $$ [Ha Hb HO HtS HtR]
  · isplitr; · iapply (facts_inv m K c (.snd t)); iexact HF
    isplitr; · iapply (facts_inv m K (tgt t c) (.rcv t)); iexact HF
    isplitl [Ha]; · iexact Ha
    isplitl [Hb]; · iexact Hb
    isplitl [HO]; · iexact HO
    isplitl [HtS]; · iexact HtS
    isplitr; · iapply (facts_reached m K c (.snd t)); iexact HF
    isplitl [HtR]; · iexact HtR
    iapply (facts_reached m K (tgt t c) (.rcv t)); iexact HF
  iintro ⟨Hc, HO⟩
  iapply Hk
  isplitl [Hc Hat]
  · isplitl [Hat]; · iexact Hat
    iexact Hc
  iexists W; iexact HO

/-- A window written with what it is to hold. -/
theorem pts_written {s : Shape} {e : EltTy} (d : Dev nD) (b : Memref sig .tc .vmem s e) (f g : Buf (Elt F) (b.view.loc (d : Thread nD τ))) (w : s.Idx → Elt F e)
    (h : ∀ x, w x = b.view.read (Elt F) g x) :
    (pts d b fullShare (b.view.write (Elt F) f w Finset.univ) : sProp 𝕄) ⊢ pts d b fullShare g := by
  unfold pts
  exact Entails.of_eq (pointsTo_congr (write_agree b.view f g w h))

end Cert.KernelIdeal.Fused

end
-- ==== Proof.Moves.lean ====
/-
The single operations of the program on the buffers it uses: loads from a window, stores into one, the output rows
written so far, and the five kinds of transfer.
-/
module

public import proofs.«01_k».proof.Proof.Steps

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Ck → ℕ)

/-! ## The semaphores as the program names them -/

theorem sem_rsS (j : Fin 3) (h) : ((cc0_scratch5.slice (Rect.unit (s := S3) ![j.val] S1.size h)).squeeze S_ squeezes_S1_S_).sem = sendQ (.rs j) := by
  revert j; decide +kernel
theorem sem_rsR (j : Fin 3) (h) : ((cc0_scratch6.slice (Rect.unit (s := S3) ![j.val] S1.size h)).squeeze S_ squeezes_S1_S_).sem = recvQ (.rs j) := by
  revert j; decide +kernel
theorem sem_agS (j : Fin 3) (h) : ((cc0_scratch7.slice (Rect.unit (s := S3) ![j.val] S1.size h)).squeeze S_ squeezes_S1_S_).sem = sendQ (.ag j) := by
  revert j; decide +kernel
theorem sem_agR (j : Fin 3) (h) : ((cc0_scratch8.slice (Rect.unit (s := S3) ![j.val] S1.size h)).squeeze S_ squeezes_S1_S_).sem = recvQ (.ag j) := by
  revert j; decide +kernel
theorem sem_ygS (j : Fin 3) (h) : ((cc0_scratch9.slice (Rect.unit (s := S3) ![j.val] S1.size h)).squeeze S_ squeezes_S1_S_).sem = sendQ (.yg j) := by
  revert j; decide +kernel
theorem sem_ygR (j : Fin 3) (h) : ((cc0_scratch10.slice (Rect.unit (s := S3) ![j.val] S1.size h)).squeeze S_ squeezes_S1_S_).sem = recvQ (.yg j) := by
  revert j; decide +kernel
theorem sem_xsS (j : Fin 4) (h) : ((cc0_scratch11.slice (Rect.unit (s := S4) ![j.val] S1.size h)).squeeze S_ squeezes_S1_S_).sem = sendQ (.xs j) := by
  revert j; decide +kernel
theorem sem_xsR (j : Fin 4) (h) : ((cc0_scratch12.slice (Rect.unit (s := S4) ![j.val] S1.size h)).squeeze S_ squeezes_S1_S_).sem = recvQ (.xs j) := by
  revert j; decide +kernel

/-! ## What a transfer of each kind moves -/

theorem credit_S (k : Fin 3) : (slotS k).view.dmaCredit = nR := rfl
theorem credit_R (k : Fin 3) : (slotR k).view.dmaCredit = nR := rfl
theorem credit_C (c : Dev nD) : (chunk c).view.dmaCredit = nR := rfl
theorem credit_Y (k : Fin 3) : (slotY k).view.dmaCredit = nG := rfl
theorem credit_X (k : Fin 4) : (slotX k).view.dmaCredit = nG := rfl

/-! ## Loads and stores -/

theorem setOn_whole (b : Ref sig .tc) (I : Finset b.ty.Idx) : (View.whole b).setOn I = I := by
  show I.map _ = I
  ext i; simp

/-- The end of a part of the program. -/
theorem ret_step {α : Type} (c : Dev nD) (a : α) (Q : α → sProp 𝕄) : Q a ⊢ run c (.ret a) Q := by
  show Q a ⊢ wp frame (wpE (defs₀ (F := F)) 𝒱₀ (c : Thread nD τ) none) Set.univ (.ret a) Q
  rw [wp_ret]; iintro H; imodintro; iexact H

section Slots
variable {α : Type} {Q : α → sProp (MT nD τ sig Unit (Elt F) ℕ UU ℕ)}

theorem load_S (c : Dev nD) (j : Fin 3) (q : PosShare TreeShare) (f) {hl} {k : Vec F S1x32x1024 .bf16 → Prog (TpuEff nD τ sig (Elt F) Λ₀ .tc) α} :
    pts c (slotS j) q f ⊢ iprop((∀ v, pts c (slotS j) q f -∗ run c (k v) Q)
      -∗ run c (.op (.load (Memref.whole cc0_scratch0) (Rect.unit (s := S3x32x1024) ![j.val, 0, 0] S1x32x1024.size (inbR j)).toLoadRect hl) k) Q) := by
  unfold pts; rw [set_slotS]
  iintro H Hk
  iapply (wp_load 𝒱₀ (c : Thread nD τ) none Set.univ (m := Memref.whole cc0_scratch0) (setOn_whole cc0_scratch0 _).subset) $$ H
  iintro H; iapply Hk; iexact H
theorem load_R (c : Dev nD) (j : Fin 3) {hl} {k : Vec F S1x32x1024 .bf16 → Prog (TpuEff nD τ sig (Elt F) Λ₀ .tc) α} :
    pts c (slotR j) fullShare (rsrC m c) ⊢ iprop((pts c (slotR j) fullShare (rsrC m c) -∗ run c (k (got m c j)) Q)
      -∗ run c (.op (.load (Memref.whole cc0_scratch1) (Rect.unit (s := S3x32x1024) ![j.val, 0, 0] S1x32x1024.size (inbR j)).toLoadRect hl) k) Q) := by
  unfold pts; rw [set_slotR]
  exact wp_load 𝒱₀ (c : Thread nD τ) none Set.univ (m := Memref.whole cc0_scratch1) (setOn_whole cc0_scratch1 _).subset
theorem load_Y (c : Dev nD) (j : Fin 3) (q : PosShare TreeShare) {hl} {k : Vec F S1x128x1024 .bf16 → Prog (TpuEff nD τ sig (Elt F) Λ₀ .tc) α} :
    pts c (slotY j) q (ygC m c) ⊢ iprop((pts c (slotY j) q (ygC m c) -∗ run c (k (ygIn m c j)) Q)
      -∗ run c (.op (.load (Memref.whole cc0_scratch3) (Rect.unit (s := S3x128x1024) ![j.val, 0, 0] S1x128x1024.size (inbY j)).toLoadRect hl) k) Q) := by
  unfold pts; rw [set_slotY]
  exact wp_load 𝒱₀ (c : Thread nD τ) none Set.univ (m := Memref.whole cc0_scratch3) (setOn_whole cc0_scratch3 _).subset
theorem load_X (c : Dev nD) (j : Fin 4) {hl} {k : Vec F S1x128x1024 .bf16 → Prog (TpuEff nD τ sig (Elt F) Λ₀ .tc) α} :
    pts c (slotX j) fullShare (xgC m c) ⊢ iprop((pts c (slotX j) fullShare (xgC m c) -∗ run c (k (xgIn m c j)) Q)
      -∗ run c (.op (.load (Memref.whole cc0_scratch4) (Rect.unit (s := S4x128x1024) ![j.val, 0, 0] S1x128x1024.size (inbX j)).toLoadRect hl) k) Q) := by
  unfold pts; rw [set_slotX]
  exact wp_load 𝒱₀ (c : Thread nD τ) none Set.univ (m := Memref.whole cc0_scratch4) (setOn_whole cc0_scratch4 _).subset

/-- The rows of device `d` in the group, at the offsets the program computes for them. -/
theorem chunk_at (d : Dev nD) {off : Fin 2 → ℕ} {inb} (h : off = ![32 * (d.val % 4), 0]) :
    (chunk d).view.set = (Rect.unit (s := S128x1024) off S32x1024.size inb).set := by
  rw [set_chunk]
  subst h
  ext i
  exact mem_chunk.trans ((by omega : _ ↔ _).trans mem_rows.symm)

theorem load_C (c d : Dev nD) (q : PosShare TreeShare) (f) {off : Fin 2 → ℕ} {inb} (h : off = ![32 * (d.val % 4), 0])
    {hl} {k : Vec F S32x1024 .bf16 → Prog (TpuEff nD τ sig (Elt F) Λ₀ .tc) α} :
    pts c (chunk d) q f ⊢ iprop((pts c (chunk d) q f -∗ run c (k ((Memref.whole cc0_scratch2).view.readAt (Elt F) (Rect.unit (s := S128x1024) off S32x1024.size inb).toLoadRect f)) Q)
      -∗ run c (.op (.load (Memref.whole cc0_scratch2) (Rect.unit (s := S128x1024) off S32x1024.size inb).toLoadRect hl) k) Q) := by
  unfold pts; rw [chunk_at d (inb := inb) h]
  exact wp_load 𝒱₀ (c : Thread nD τ) none Set.univ (m := Memref.whole cc0_scratch2) (setOn_whole cc0_scratch2 _).subset

variable {k : PUnit → Prog (TpuEff nD τ sig (Elt F) Λ₀ .tc) α}

/-- A store that writes what its window is to hold. -/
theorem store_window (c : Dev nD) {s : Shape} {e : EltTy} (M : Memref sig .tc .vmem s e) (r : Rect s) (f g : Buf (Elt F) ((M.access r).loc (c : Thread nD τ)))
    {w : r.shape.Idx → Elt F e} {hx hm} {S : Finset (Idx ((M.access r).loc (c : Thread nD τ)))} (hS : (M.access r).set = S)
    (hw : ∀ x, w x = (M.access r).read (Elt F) g x) :
    ((M.access r).loc (c : Thread nD τ) ↦[S]{fullShare} f : sProp 𝕄) ⊢ iprop((((M.access r).loc (c : Thread nD τ) ↦[S]{fullShare} g) -∗ run c (k ⟨⟩) Q)
      -∗ run c (.op (.store M r w Finset.univ hx hm) k) Q) := by
  subst hS
  have hc : ((M.access r).loc (c : Thread nD τ) ↦[(M.access r).set]{fullShare} (M.access r).write (Elt F) f w Finset.univ : sProp 𝕄)
      = ((M.access r).loc (c : Thread nD τ) ↦[(M.access r).set]{fullShare} g) := pointsTo_congr (write_agree (M.access r) f g w hw)
  iintro H Hk
  iapply (wp_store 𝒱₀ (c : Thread nD τ) none Set.univ (m := M) (r := r) (Mk := Finset.univ) (S := (M.access r).set) (f := f) subset_rfl) $$ H
  iintro H; iapply Hk
  iapply (Entails.of_eq hc); iexact H

theorem store_S (c : Dev nD) (j : Fin 3) (f) {hx hm} :
    pts c (slotS j) fullShare f ⊢ iprop((pts c (slotS j) fullShare (rssC m c) -∗ run c (k ⟨⟩) Q)
      -∗ run c (.op (.store (Memref.whole cc0_scratch0) (Rect.unit (s := S3x32x1024) ![j.val, 0, 0] S1x32x1024.size (inbR j)) (sent m c j) Finset.univ hx hm) k) Q) := by
  unfold pts; rw [set_slotS]
  exact store_window c (Memref.whole cc0_scratch0) _ f (rssC m c) (View.set_slice_whole _ _) (store_rs m c j)
theorem store_C (c : Dev nD) (f) {hx hm} :
    pts c (chunk c) fullShare f ⊢ iprop((pts c (chunk c) fullShare (grpC m c) -∗ run c (k ⟨⟩) Q)
      -∗ run c (.op (.store (Memref.whole cc0_scratch2) (Rect.unit (s := S128x1024) (k0_off4 c) S32x1024.size (k0_off4_inb c)) (normT m c) Finset.univ hx hm) k) Q) := by
  unfold pts; rw [chunk_at c (inb := k0_off4_inb c) (k0_off4_eq c)]
  exact store_window c (Memref.whole cc0_scratch2) _ f (grpC m c) (View.set_slice_whole _ _) (store_grp m c)

/-! ## The output -/

/-- The output rows of the devices in `S` are written. -/
def outRows (c : Dev nD) (S : Finset (Dev nD)) : sProp 𝕄 :=
  iprop(∃ f : (cc0_stg3_0 : Ref sig .tc).ty.Contents (Elt F), ⌜∀ i : S1024x1024.Idx, owner (i 0) ∈ S → f i = outC m c i⌝
    ∗ ((Memref.whole cc0_stg3_0).view.loc (c : Thread nD τ) ↦{fullShare} f))

theorem outRows_all (c : Dev nD) {S : Finset (Dev nD)} (h : ∀ d, d ∈ S) :
    outRows m c S ⊢ ((Memref.whole cc0_stg3_0).view.loc (c : Thread nD τ) ↦{fullShare} outC m c : sProp 𝕄) := by
  unfold outRows
  iintro ⟨%f, %hf, H⟩
  rw [show f = outC m c from funext fun i => hf i (h _)]
  iexact H

theorem load_out (c : Dev nD) (S : Finset (Dev nD)) {r : Rect S1024x1024} {hl} {k : (r.shape.Idx → Elt F .f32) → Prog (TpuEff nD τ sig (Elt F) Λ₀ .tc) α} :
    outRows m c S ⊢ iprop((∀ v, outRows m c S -∗ run c (k v) Q)
      -∗ run c (.op (.load (Memref.whole cc0_stg3_0) r.toLoadRect hl) k) Q) := by
  unfold outRows
  iintro ⟨%f, %hf, H⟩ Hk
  iapply (wp_load 𝒱₀ (c : Thread nD τ) none Set.univ (m := Memref.whole cc0_stg3_0) (Finset.subset_univ _)) $$ H
  iintro H
  iapply Hk
  iexists f
  isplitr; · ipureintro; exact hf
  iexact H

theorem store_out (c : Dev nD) (S T : Finset (Dev nD)) {r : Rect S1024x1024} {w : r.shape.Idx → Elt F .f32} {hx hm}
    (hw : ∀ x, w x = ((Memref.whole cc0_stg3_0).access r).read (Elt F) (outC m c) x)
    (hT : ∀ i : S1024x1024.Idx, owner (i 0) ∈ T → i ∈ r.set) :
    outRows m c S ⊢ iprop((outRows m c (S ∪ T) -∗ run c (k ⟨⟩) Q)
      -∗ run c (.op (.store (Memref.whole cc0_stg3_0) r w Finset.univ hx hm) k) Q) := by
  unfold outRows
  iintro ⟨%f, %hf, H⟩ Hk
  iapply (wp_store 𝒱₀ (c : Thread nD τ) none Set.univ (m := Memref.whole cc0_stg3_0) (r := r) (Mk := Finset.univ) (Finset.subset_univ _)) $$ H
  iintro H
  iapply Hk
  iexists (((Memref.whole cc0_stg3_0).access r).write (Elt F) f w Finset.univ)
  isplitr
  · ipureintro
    intro i hi
    exact write_extend ((Memref.whole cc0_stg3_0).access r) f (outC m c) w hw i ((Finset.mem_union.mp hi).symm.imp
      (fun h => (Finset.ext_iff.mp (View.set_slice_whole cc0_stg3_0 r) i).mpr (hT i h)) (fun h => hf i h))
  iexact H

/-! The rows each store covers. -/

/-- The devices of a group. -/
def grp (d : Dev nD) : Finset (Dev nD) := Finset.univ.filter fun e => e.val / 4 = d.val / 4

theorem band_one {d : Dev nD} {off : Fin 2 → ℕ} {inb} (h : off = ![32 * d.val, 0]) (i : S1024x1024.Idx)
    (hi : owner (i 0) ∈ ({d} : Finset (Dev nD))) : i ∈ (Rect.unit (s := S1024x1024) off S32x1024.size inb).set := by
  subst h
  have hd : (i 0).val / 32 = d.val := congrArg Fin.val (Finset.mem_singleton.mp hi)
  exact mem_rows.mpr (by omega)
theorem band_group {d : Dev nD} {off : Fin 2 → ℕ} {inb} (h : off = ![128 * (d.val / 4), 0]) (i : S1024x1024.Idx)
    (hi : owner (i 0) ∈ grp d) : i ∈ (Rect.unit (s := S1024x1024) off S128x1024.size inb).set := by
  subst h
  have hd : (i 0).val / 32 / 4 = d.val / 4 := (Finset.mem_filter.mp hi).2
  exact mem_rows.mpr (by omega)

end Slots

/-! ## The transfers -/

variable {α : Type} {Q : α → sProp (MT nD τ sig Unit (Elt F) ℕ UU ℕ)} {k : PUnit → Prog (TpuEff nD τ sig (Elt F) Λ₀ .tc) α}

theorem send_rs (j : Fin 3) (c : Dev nD) {n : Dev nD} (hn : n = tgt (.rs j) c) (l : List Pay) {sS sR : DmaSem sig} (hS : sS = sendQ (.rs j)) (hR : sR = recvQ (.rs j))
    {hsc ha hb hsem} :
    facts m K ⊢ iprop(sendTok (.rs j) c -∗ pts c (slotS j) fullShare (rssC m c) -∗ grant (.rs j) (tgt (.rs j) c) -∗ owe c (.cp (.rs j) :: l)
      -∗ ((ticket c (.snd (.rs j)) ∗ owe c l) -∗ run c (k ⟨⟩) Q)
      -∗ run c (.op (.enqueueDma (slotS j) (.remote (Dev.tc n : Thread nD τ) (slotR j) (.dma sS) hsc) (.dma sR) ha hb hsem) k) Q) := by
  dsimp only [grant]
  iintro #HF Ht Ha ⟨%fd, Hb⟩ HO Hk
  iapply (send_step m K (.rs j) c n hn l hS hR fd (credit_R j) .rfl (pts_written _ _ _ _ _ (read_rs m c j))) $$ HF Ht Ha Hb HO Hk

theorem grant_ag (j : Fin 3) (c : Dev nD) : grant (F := F) (.ag j) (tgt (.ag j) c) = iprop(∃ f, pts (tgt (.ag j) c) (chunk c) fullShare f) := by
  dsimp only [grant]; rw [src_tgt]
theorem landed_ag (j : Fin 3) (c : Dev nD) : landed m (.ag j) (tgt (.ag j) c) = pts (tgt (.ag j) c) (chunk c) fullShare (grpC m (tgt (.ag j) c)) := by
  dsimp only [landed]; rw [src_tgt]

theorem send_ag (j : Fin 3) (c : Dev nD) {n : Dev nD} (hn : n = tgt (.ag j) c) (l : List Pay) {sS sR : DmaSem sig} (hS : sS = sendQ (.ag j)) (hR : sR = recvQ (.ag j))
    {hsc ha hb hsem} :
    facts m K ⊢ iprop(sendTok (.ag j) c -∗ pts c (chunk c) (shareTok fullShare 3 j) (grpC m c) -∗ grant (.ag j) (tgt (.ag j) c) -∗ owe c (.cp (.ag j) :: l)
      -∗ ((ticket c (.snd (.ag j)) ∗ owe c l) -∗ run c (k ⟨⟩) Q)
      -∗ run c (.op (.enqueueDma (chunk c) (.remote (Dev.tc n : Thread nD τ) (chunk c) (.dma sS) hsc) (.dma sR) ha hb hsem) k) Q) := by
  rw [grant_ag]
  iintro #HF Ht Ha ⟨%fd, Hb⟩ HO Hk
  iapply (send_step m K (.ag j) c n hn l hS hR fd (credit_C c) .rfl
    ((pts_written _ _ _ _ _ (read_ag m c j)).trans (Entails.of_eq (landed_ag m j c).symm))) $$ HF Ht Ha Hb HO Hk

theorem send_yg (j : Fin 3) (c : Dev nD) {n : Dev nD} (hn : n = tgt (.yg j) c) (l : List Pay) {sS sR : DmaSem sig} (hS : sS = sendQ (.yg j)) (hR : sR = recvQ (.yg j))
    {hsc ha hb hsem} :
    facts m K ⊢ iprop(sendTok (.yg j) c -∗ pts c grpM (shareTok qG 3 j) (grpC m c) -∗ grant (.yg j) (tgt (.yg j) c) -∗ owe c (.cp (.yg j) :: l)
      -∗ ((ticket c (.snd (.yg j)) ∗ owe c l) -∗ run c (k ⟨⟩) Q)
      -∗ run c (.op (.enqueueDma grpM (.remote (Dev.tc n : Thread nD τ) (slotY j) (.dma sS) hsc) (.dma sR) ha hb hsem) k) Q) := by
  dsimp only [grant]
  iintro #HF Ht Ha ⟨%fd, Hb⟩ HO Hk
  iapply (send_step m K (.yg j) c n hn l hS hR fd (credit_Y j) .rfl (pts_written _ _ _ _ _ (read_yg m c j))) $$ HF Ht Ha Hb HO Hk

theorem send_x0 (c : Dev nD) {n : Dev nD} (hn : n = tgt (.xs 0) c) (l : List Pay) {sS sR : DmaSem sig} (hS : sS = sendQ (.xs 0)) (hR : sR = recvQ (.xs 0))
    {hsc ha hb hsem} :
    facts m K ⊢ iprop(sendTok (.xs 0) c -∗ pts c grpM (shareDrop qG 3) (grpC m c) -∗ grant (.xs 0) (tgt (.xs 0) c) -∗ owe c (.cp (.xs 0) :: l)
      -∗ ((ticket c (.snd (.xs 0)) ∗ owe c l) -∗ run c (k ⟨⟩) Q)
      -∗ run c (.op (.enqueueDma grpM (.remote (Dev.tc n : Thread nD τ) (slotX 0) (.dma sS) hsc) (.dma sR) ha hb hsem) k) Q) := by
  dsimp only [grant]
  iintro #HF Ht Ha ⟨%fd, Hb⟩ HO Hk
  iapply (send_step m K (.xs 0) c n hn l hS hR fd (credit_X 0) .rfl (pts_written _ _ _ _ _ (read_x0 m c))) $$ HF Ht Ha Hb HO Hk

theorem send_xs (j : Fin 3) (i : Fin 4) (hi : i = j.succ) (c : Dev nD) {n : Dev nD} (hn : n = tgt (.xs i) c) (l : List Pay) {sS sR : DmaSem sig}
    (hS : sS = sendQ (.xs i)) (hR : sR = recvQ (.xs i)) {hsc ha hb hsem} :
    facts m K ⊢ iprop(sendTok (.xs i) c -∗ pts c (slotY j) fullShare.left (ygC m c) -∗ grant (.xs i) (tgt (.xs i) c) -∗ owe c (.cp (.xs i) :: l)
      -∗ ((ticket c (.snd (.xs i)) ∗ owe c l) -∗ run c (k ⟨⟩) Q)
      -∗ run c (.op (.enqueueDma (slotY j) (.remote (Dev.tc n : Thread nD τ) (slotX i) (.dma sS) hsc) (.dma sR) ha hb hsem) k) Q) := by
  subst hi
  dsimp only [grant]
  iintro #HF Ht Ha ⟨%fd, Hb⟩ HO Hk
  iapply (send_step m K (.xs j.succ) c n hn l hS hR fd (credit_X j.succ) .rfl (pts_written _ _ _ _ _ (read_xs m c j))) $$ HF Ht Ha Hb HO Hk

end Cert.KernelIdeal.Fused

end
-- ==== Proof.Pieces.lean ====
/-
How a device's buffers come apart into the windows the transfers use, and back together.
-/
module

public import proofs.«01_k».proof.Proof.Sched
public import Idealize.ShloMosaic.Lib.Ring

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## Layers and chunks cover their buffers -/

theorem layers_disjoint {n a b : ℕ} (inb : ∀ k : Fin n, ∀ x, ![k.val, 0, 0] x + (![1, a, b] : Fin 3 → ℕ) x ≤ (⟨3, ![n, a, b]⟩ : Shape).size x)
    (k k' : Fin n) (h : k ≠ k') :
    Disjoint (Rect.unit (s := ⟨3, ![n, a, b]⟩) ![k.val, 0, 0] ![1, a, b] (inb k)).set (Rect.unit (s := ⟨3, ![n, a, b]⟩) ![k'.val, 0, 0] ![1, a, b] (inb k')).set :=
  Finset.disjoint_left.mpr fun i hi hi' => h (Fin.ext ((mem_layer.mp hi).symm.trans (mem_layer.mp hi')))
theorem layers_cover {n a b : ℕ} (inb : ∀ k : Fin n, ∀ x, ![k.val, 0, 0] x + (![1, a, b] : Fin 3 → ℕ) x ≤ (⟨3, ![n, a, b]⟩ : Shape).size x) :
    (Finset.univ.biUnion fun k : Fin n => (Rect.unit (s := ⟨3, ![n, a, b]⟩) ![k.val, 0, 0] ![1, a, b] (inb k)).set) = Finset.univ := by
  refine Finset.eq_univ_of_forall fun i => Finset.mem_biUnion.mpr ⟨⟨(i 0).val, (i 0).isLt⟩, Finset.mem_univ _, mem_layer.mpr rfl⟩

theorem zup_zero (c : Dev nD) : zup c 0 = c := by apply Fin.ext; simp only [zup]; omega

theorem chunks_disjoint (c : Dev nD) (p p' : Fin 4) (h : p ≠ p') :
    Disjoint (Rect.unit (s := S128x1024) (k0_off5 (zup c p.val)) S32x1024.size (k0_off5_inb _)).set
      (Rect.unit (s := S128x1024) (k0_off5 (zup c p'.val)) S32x1024.size (k0_off5_inb _)).set :=
  Finset.disjoint_left.mpr fun i hi hi' => h (Fin.ext (by
    have h1 := mem_chunk.mp hi; have h2 := mem_chunk.mp hi'
    simp only [zup] at h1 h2; omega))
theorem chunks_cover (c : Dev nD) :
    (Finset.univ.biUnion fun p : Fin 4 => (Rect.unit (s := S128x1024) (k0_off5 (zup c p.val)) S32x1024.size (k0_off5_inb _)).set) = Finset.univ := by
  refine Finset.eq_univ_of_forall fun i => Finset.mem_biUnion.mpr ⟨⟨((i 0).val / 32 + 4 - c.val % 4) % 4, Nat.mod_lt _ (by decide)⟩, Finset.mem_univ _, mem_chunk.mpr ?_⟩
  have hi : (i 0).val < 128 := (i 0).isLt
  simp only [zup]; omega

/-! ## The slots -/

/-- A family of windows, each at some contents. -/
abbrev some' {n : ℕ} (c : Dev nD) {s : Shape} {e : EltTy} (M : Fin n → Memref sig .tc .vmem s e) (j : Fin n) : sProp 𝕄 :=
  iprop(∃ f, pts c (M j) fullShare f)

theorem three (P : Fin 3 → sProp 𝕄) : bigSep Finset.univ P = iprop(P 0 ∗ P 1 ∗ P 2) :=
  bigSep_univ_eq_bigSepL ([0, 1, 2] : List (Fin 3)) (by decide) (by decide) _
theorem four (P : Fin 4 → sProp 𝕄) : bigSep Finset.univ P = iprop(P 0 ∗ P 1 ∗ P 2 ∗ P 3) :=
  bigSep_univ_eq_bigSepL ([0, 1, 2, 3] : List (Fin 4)) (by decide) (by decide) _

section Split
variable (c : Dev nD)

/-- A buffer held whole at some contents is its blocks, each at some contents. -/
theorem blocks_split {n : ℕ} {ℓ : Loc nD τ sig} (I : Fin n → Finset (Idx ℓ)) (hd : ∀ b b', b ≠ b' → Disjoint (I b) (I b')) (hc : Finset.univ.biUnion I = Finset.univ) :
    (iprop(∃ f, ℓ ↦{fullShare} f) : sProp 𝕄) ⊢ bigSep Finset.univ fun j => iprop(∃ f, ℓ ↦[I j]{fullShare} f) := by
  have one (f : Buf (Elt F) ℓ) (j : Fin n) : (ℓ ↦[I j]{fullShare} f : sProp 𝕄) ⊢ iprop(∃ f, ℓ ↦[I j]{fullShare} f) := by iintro H; iexists f; iexact H
  have h (f : Buf (Elt F) ℓ) : (bigSep Finset.univ fun j => (ℓ ↦[I j]{fullShare} f : sProp 𝕄)) ⊢ bigSep Finset.univ fun j => iprop(∃ f, ℓ ↦[I j]{fullShare} f) :=
    bigSep_mono fun j _ => one f j
  iintro ⟨%f, H⟩
  iapply (h f)
  iapply (Entails.of_eq (Ring.pointsTo_blocks I hd hc f)); iexact H

theorem slots_S : (bigSep Finset.univ fun j => (iprop(∃ f, ((c : Thread nD τ).loc cc0_scratch0) ↦[(Rect.unit (s := S3x32x1024) ![j.val, 0, 0] S1x32x1024.size (inbR j)).set]{fullShare} f) : sProp 𝕄))
    = iprop(some' c slotS 0 ∗ some' c slotS 1 ∗ some' c slotS 2) := by
  rw [← three]
  refine congrArg (bigSep Finset.univ) (funext fun j => ?_)
  unfold some' pts; rw [set_slotS]
theorem split_S : (iprop(∃ f, ((c : Thread nD τ).loc cc0_scratch0) ↦{fullShare} f) : sProp 𝕄) ⊢ iprop(some' c slotS 0 ∗ some' c slotS 1 ∗ some' c slotS 2) :=
  (blocks_split _ (layers_disjoint inbR) (layers_cover inbR)).trans (Entails.of_eq (slots_S c))
theorem join_S (f : Buf (Elt F) ((c : Thread nD τ).loc cc0_scratch0)) : iprop(some' c slotS 0 ∗ some' c slotS 1 ∗ some' c slotS 2) ⊢ (iprop(∃ f, ((c : Thread nD τ).loc cc0_scratch0) ↦{fullShare} f) : sProp 𝕄) :=
  (Entails.of_eq (slots_S c).symm).trans (Ring.pointsTo_blocks_join_exists _ (layers_disjoint inbR) (layers_cover inbR) f)

theorem slots_R : (bigSep Finset.univ fun j => (iprop(∃ f, ((c : Thread nD τ).loc cc0_scratch1) ↦[(Rect.unit (s := S3x32x1024) ![j.val, 0, 0] S1x32x1024.size (inbR j)).set]{fullShare} f) : sProp 𝕄))
    = iprop(some' c slotR 0 ∗ some' c slotR 1 ∗ some' c slotR 2) := by
  rw [← three]
  refine congrArg (bigSep Finset.univ) (funext fun j => ?_)
  unfold some' pts; rw [set_slotR]
theorem split_R : (iprop(∃ f, ((c : Thread nD τ).loc cc0_scratch1) ↦{fullShare} f) : sProp 𝕄) ⊢ iprop(some' c slotR 0 ∗ some' c slotR 1 ∗ some' c slotR 2) :=
  (blocks_split _ (layers_disjoint inbR) (layers_cover inbR)).trans (Entails.of_eq (slots_R c))
theorem join_R (f : Buf (Elt F) ((c : Thread nD τ).loc cc0_scratch1)) : iprop(some' c slotR 0 ∗ some' c slotR 1 ∗ some' c slotR 2) ⊢ (iprop(∃ f, ((c : Thread nD τ).loc cc0_scratch1) ↦{fullShare} f) : sProp 𝕄) :=
  (Entails.of_eq (slots_R c).symm).trans (Ring.pointsTo_blocks_join_exists _ (layers_disjoint inbR) (layers_cover inbR) f)

theorem slots_Y : (bigSep Finset.univ fun j => (iprop(∃ f, ((c : Thread nD τ).loc cc0_scratch3) ↦[(Rect.unit (s := S3x128x1024) ![j.val, 0, 0] S1x128x1024.size (inbY j)).set]{fullShare} f) : sProp 𝕄))
    = iprop(some' c slotY 0 ∗ some' c slotY 1 ∗ some' c slotY 2) := by
  rw [← three]
  refine congrArg (bigSep Finset.univ) (funext fun j => ?_)
  unfold some' pts; rw [set_slotY]
theorem split_Y : (iprop(∃ f, ((c : Thread nD τ).loc cc0_scratch3) ↦{fullShare} f) : sProp 𝕄) ⊢ iprop(some' c slotY 0 ∗ some' c slotY 1 ∗ some' c slotY 2) :=
  (blocks_split _ (layers_disjoint inbY) (layers_cover inbY)).trans (Entails.of_eq (slots_Y c))
theorem join_Y (f : Buf (Elt F) ((c : Thread nD τ).loc cc0_scratch3)) : iprop(some' c slotY 0 ∗ some' c slotY 1 ∗ some' c slotY 2) ⊢ (iprop(∃ f, ((c : Thread nD τ).loc cc0_scratch3) ↦{fullShare} f) : sProp 𝕄) :=
  (Entails.of_eq (slots_Y c).symm).trans (Ring.pointsTo_blocks_join_exists _ (layers_disjoint inbY) (layers_cover inbY) f)

theorem slots_X : (bigSep Finset.univ fun j => (iprop(∃ f, ((c : Thread nD τ).loc cc0_scratch4) ↦[(Rect.unit (s := S4x128x1024) ![j.val, 0, 0] S1x128x1024.size (inbX j)).set]{fullShare} f) : sProp 𝕄))
    = iprop(some' c slotX 0 ∗ some' c slotX 1 ∗ some' c slotX 2 ∗ some' c slotX 3) := by
  rw [← four]
  refine congrArg (bigSep Finset.univ) (funext fun j => ?_)
  unfold some' pts; rw [set_slotX]
theorem split_X : (iprop(∃ f, ((c : Thread nD τ).loc cc0_scratch4) ↦{fullShare} f) : sProp 𝕄) ⊢ iprop(some' c slotX 0 ∗ some' c slotX 1 ∗ some' c slotX 2 ∗ some' c slotX 3) :=
  (blocks_split _ (layers_disjoint inbX) (layers_cover inbX)).trans (Entails.of_eq (slots_X c))
theorem join_X (f : Buf (Elt F) ((c : Thread nD τ).loc cc0_scratch4)) : iprop(some' c slotX 0 ∗ some' c slotX 1 ∗ some' c slotX 2 ∗ some' c slotX 3) ⊢ (iprop(∃ f, ((c : Thread nD τ).loc cc0_scratch4) ↦{fullShare} f) : sProp 𝕄) :=
  (Entails.of_eq (slots_X c).symm).trans (Ring.pointsTo_blocks_join_exists _ (layers_disjoint inbX) (layers_cover inbX) f)

/-! ## The group -/

theorem pts_grp (q : PosShare TreeShare) (f) : (pts c grpM q f : sProp 𝕄) = (((c : Thread nD τ).loc cc0_scratch2) ↦{q} f) := by
  unfold pts
  exact congrArg (fun I => (((c : Thread nD τ).loc cc0_scratch2) ↦[I]{q} f : sProp 𝕄)) (View.set_whole cc0_scratch2)

theorem pts_chunk (d : Dev nD) (q : PosShare TreeShare) (f) : (pts c (chunk d) q f : sProp 𝕄)
    = (((c : Thread nD τ).loc cc0_scratch2) ↦[(Rect.unit (s := S128x1024) (k0_off5 d) S32x1024.size (k0_off5_inb d)).set]{q} f) := by
  unfold pts
  exact congrArg (fun I => (((c : Thread nD τ).loc cc0_scratch2) ↦[I]{q} f : sProp 𝕄)) (set_chunk d)

/-- The group is its four devices' rows. -/
theorem group_chunks (q : PosShare TreeShare) (f) : (pts c grpM q f : sProp 𝕄)
    = iprop(pts c (chunk c) q f ∗ pts c (chunk (src (.ag 0) c)) q f ∗ pts c (chunk (src (.ag 1) c)) q f ∗ pts c (chunk (src (.ag 2) c)) q f) := by
  rw [pts_grp, Ring.pointsTo_blocks _ (chunks_disjoint c) (chunks_cover c) f, four]
  rw [pts_chunk, pts_chunk, pts_chunk, pts_chunk, show zup c (0 : Fin 4).val = c from zup_zero c]
  rfl

/-! ## Shares -/

theorem shares {s : Shape} {e : EltTy} (M : Memref sig .tc .vmem s e) (q : PosShare TreeShare) (f) : (pts c M q f : sProp 𝕄)
    ⊣⊢ iprop(pts c M (shareDrop q 3) f ∗ pts c M (shareTok q 3 0) f ∗ pts c M (shareTok q 3 1) f ∗ pts c M (shareTok q 3 2) f) := by
  have h := Transfers.pointsTo_toks (nD := nD) (τ := τ) (sig := sig) (Ix := Unit) (Val := Elt F) (Name := ℕ) (U := UU) (Lvl := ℕ) (ℓ := M.view.loc (c : Thread nD τ)) (S := M.view.set) (f := f) q 3
  rw [three] at h
  exact h
theorem halves {s : Shape} {e : EltTy} (M : Memref sig .tc .vmem s e) (q : PosShare TreeShare) (f) : (pts c M q f : sProp 𝕄)
    ⊣⊢ iprop(pts c M q.left f ∗ pts c M q.right f) := pointsTo_share (PosShare.mem_left_op_right q)

end Split

end Cert.KernelIdeal.Fused

end
-- ==== Proof.Enter.lean ====
/-
The parts of the program up to the exchange of the partial sums: entering, the wait for the peers, and the three
transfers that hand each device of the group its partial rows.
-/
module

public import proofs.«01_k».proof.Proof.Moves
public import proofs.«01_k».proof.Proof.Pieces

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Ck → ℕ)

/-- A piece of the program at the buffers and semaphores it is run at. -/
@[reducible] def here {β : Sort*} (p : (a0 : Memref sig .tc .vmem S1x1024x1024 .bf16) → a0.IsWhole → (a1 : Memref sig .tc .vmem S1024x1024 .bf16) → a1.IsWhole
    → (a2 : Memref sig .tc .vmem S1024 .bf16) → a2.IsWhole → (a3 : Memref sig .tc .vmem S1024x1024 .f32) → a3.IsWhole
    → (a4 : Memref sig .tc .vmem S3x32x1024 .bf16) → a4.IsWhole → (a5 : Memref sig .tc .vmem S3x32x1024 .bf16) → a5.IsWhole
    → (a6 : Memref sig .tc .vmem S128x1024 .bf16) → a6.IsWhole → (a7 : Memref sig .tc .vmem S3x128x1024 .bf16) → a7.IsWhole
    → (a8 : Memref sig .tc .vmem S4x128x1024 .bf16) → a8.IsWhole
    → DmaSems sig S3 → DmaSems sig S3 → DmaSems sig S3 → DmaSems sig S3 → DmaSems sig S3 → DmaSems sig S3 → DmaSems sig S4 → DmaSems sig S4 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12

/-! ## The payments still ahead, at each point of the program -/

abbrev left20 : List Pay := []
abbrev left19 : List Pay := .cp (.xs 3) :: left20
abbrev left18 : List Pay := .cp (.xs 2) :: left19
abbrev left17 : List Pay := .cp (.xs 1) :: left18
abbrev left16 : List Pay := .cp (.xs 0) :: left17
abbrev left15 : List Pay := .cp (.yg 2) :: left16
abbrev left14 : List Pay := .cp (.yg 1) :: left15
abbrev left13 : List Pay := .cp (.yg 0) :: left14
abbrev left12 : List Pay := .cp (.ag 2) :: left13
abbrev left11 : List Pay := .cp (.ag 1) :: left12
abbrev left10 : List Pay := .cp (.ag 0) :: left11
abbrev left9 : List Pay := .cp (.rs 2) :: left10
abbrev left8 : List Pay := .cp (.rs 1) :: left9
abbrev left7 : List Pay := .cp (.rs 0) :: left8
abbrev left6 : List Pay := .bar 6 :: left7
abbrev left5 : List Pay := .bar 5 :: left6
abbrev left4 : List Pay := .bar 4 :: left5
abbrev left3 : List Pay := .bar 3 :: left4
abbrev left2 : List Pay := .bar 2 :: left3
abbrev left1 : List Pay := .bar 1 :: left2
abbrev left0 : List Pay := .bar 0 :: left1

/-- A device's partial result, -/
abbrev inP (c : Dev nD) : sProp 𝕄 := (Memref.whole cc0_stg0_0).view.loc (c : Thread nD τ) ↦{fullShare} pstg m c
/-- its residual, -/
abbrev inR (c : Dev nD) : sProp 𝕄 := (Memref.whole cc0_stg1_0).view.loc (c : Thread nD τ) ↦{fullShare} rstg m c
/-- and the scale. -/
abbrev inG (c : Dev nD) : sProp 𝕄 := (Memref.whole cc0_stg2_0).view.loc (c : Thread nD τ) ↦{fullShare} gstg m c

section Scatter
variable {α : Type} {Q : α → sProp (MT nD τ sig Unit (Elt F) ℕ UU ℕ)} {k : PUnit → Prog (TpuEff nD τ sig (Elt F) Λ₀ .tc) α}

/-- One transfer of partial sums: the rows are loaded, stored into the slot they leave from, and sent. -/
theorem scatter (j : Fin 3) (c : Dev nD) {n : Dev nD} (hn : n = tgt (.rs j) c) (l : List Pay) {sS sR : DmaSem sig} (hS : sS = sendQ (.rs j)) (hR : sR = recvQ (.rs j))
    {hl hl' hx hm hsc ha hb hsem} :
    facts m K ⊢ iprop(inP m c -∗ (∃ f, pts c (slotS j) fullShare f) -∗ sendTok (.rs j) c -∗ grant (.rs j) (tgt (.rs j) c) -∗ owe c (.cp (.rs j) :: l)
      -∗ ((inP m c ∗ ticket c (.snd (.rs j)) ∗ owe c l) -∗ run c (k ⟨⟩) Q)
      -∗ run c (.op (.load (Memref.whole cc0_stg0_0) (Rect.unit (s := S1x1024x1024) (k0_off1 c (BitVec.ofNat 32 (1 + j.val))) S1x32x1024.size (k0_off1_inb c j)).toLoadRect hl)
          fun v => .op (.load (Memref.whole cc0_scratch0) (Rect.unit (s := S3x32x1024) ![j.val, 0, 0] S1x32x1024.size (inbR j)).toLoadRect hl')
          fun _ => .op (.store (Memref.whole cc0_scratch0) (Rect.unit (s := S3x32x1024) ![j.val, 0, 0] S1x32x1024.size (inbR j)) (k0_pay1 v) Finset.univ hx hm)
          fun _ => .op (.enqueueDma (slotS j) (.remote (Dev.tc n : Thread nD τ) (slotR j) (.dma sS) hsc) (.dma sR) ha hb hsem) k) Q) := by
  iintro #HF HP ⟨%f, Hs⟩ Ht Hg HO Hk
  iapply (wp_load 𝒱₀ (c : Thread nD τ) none Set.univ (m := Memref.whole cc0_stg0_0) (Finset.subset_univ _)) $$ HP
  iintro HP
  iapply (load_S c j fullShare f) $$ Hs
  iintro %v Hs
  iapply (store_S m c j f) $$ Hs
  iintro Hs
  iapply (send_rs m K j c hn l hS hR) $$ HF Ht Hs Hg HO
  iintro ⟨Hc, HO⟩
  iapply Hk
  isplitl [HP]; · iexact HP
  isplitl [Hc]; · iexact Hc
  iexact HO
end Scatter

/-! ## Entering -/

abbrev barV : Sems sig S_ := SemArray.scalar (sig.barrier 0 rfl)

section
variable {Q : (Σ' (d0 : Dev nD) (v2 : BitVec 32) (v5 : BitVec 32) (v8 : BitVec 32) (v9 : BitVec 32) (v12 : BitVec 32) (v13 : Sems sig S_) (v31 : BitVec 32) (c4_i32_15 : BitVec 32) (v32 : BitVec 1), BitVec 32)
  → sProp (MT nD τ sig Unit (Elt F) ℕ UU ℕ)}
theorem run1 (c : Dev nD) :
    facts m K ⊢ iprop(barTok 0 c -∗ barPay (peer 0 c) 0 -∗ owe c left0
      -∗ (∀ v2 v5 v8 v9 v12 v31 x v32 y, owe c left1 -∗ Q ⟨c, v2, v5, v8, v9, v12, barV, v31, x, v32, y⟩)
      -∗ run c (here (k0_part1 (F := F))) Q) := by
  rw [k0_part1_eq_skeleton]
  unfold k0_part1_skel
  simp only [semSignalWord, Prog.lift, Prog.bind_op, Prog.bind_ret, Prog.pure_eq_ret, wp_deviceId]
  iintro #HF Ht Hp HO Hk
  iapply (enter_step m K c _ 0 (dev1_eq c) left1) $$ HF Ht Hp HO
  iintro HO
  iapply (ret_step c _ Q)
  iapply Hk; iexact HO
end
section
variable {Q : (Σ' (v65 : BitVec 32) (c4_i32_38 : BitVec 32) (v66 : BitVec 1), BitVec 32) → sProp (MT nD τ sig Unit (Elt F) ℕ UU ℕ)}
theorem run2 (c : Dev nD) (v2 v5 v8 v31 x : BitVec 32) (v32 : BitVec 1) (y : BitVec 32) :
    facts m K ⊢ iprop(barTok 1 c -∗ barTok 2 c -∗ barPay (peer 1 c) 1 -∗ barPay (peer 2 c) 2 -∗ owe c left1
      -∗ (∀ a, owe c left3 -∗ Q a) -∗ run c (here (k0_part2 (F := F)) c v2 v5 v8 barV v31 x v32 y) Q) := by
  rw [k0_part2_eq_skeleton]
  unfold k0_part2_skel
  simp only [semSignalWord, Prog.lift, Prog.bind_op, Prog.bind_ret, Prog.pure_eq_ret]
  iintro #HF Ht Ht' Hp Hp' HO Hk
  iapply (enter_step m K c _ 1 (dev2_eq c) left2) $$ HF Ht Hp HO
  iintro HO
  iapply (enter_step m K c _ 2 (dev3_eq c) left3) $$ HF Ht' Hp' HO
  iintro HO
  iapply (ret_step c _ Q)
  iapply Hk; iexact HO
theorem run3 (c : Dev nD) (v2 v5 v8 v65 x : BitVec 32) (v66 : BitVec 1) (y : BitVec 32) :
    facts m K ⊢ iprop(barTok 3 c -∗ barTok 4 c -∗ barPay (peer 3 c) 3 -∗ barPay (peer 4 c) 4 -∗ owe c left3
      -∗ (∀ a, owe c left5 -∗ Q a) -∗ run c (here (k0_part3 (F := F)) c v2 v5 v8 barV v65 x v66 y) Q) := by
  rw [k0_part3_eq_skeleton]
  unfold k0_part3_skel
  simp only [semSignalWord, Prog.lift, Prog.bind_op, Prog.bind_ret, Prog.pure_eq_ret]
  iintro #HF Ht Ht' Hp Hp' HO Hk
  iapply (enter_step m K c _ 3 (dev4_eq c) left4) $$ HF Ht Hp HO
  iintro HO
  iapply (enter_step m K c _ 4 (dev5_eq c) left5) $$ HF Ht' Hp' HO
  iintro HO
  iapply (ret_step c _ Q)
  iapply Hk; iexact HO
end
section
variable {Q : (Σ' (v132 : BitVec 32), BitVec 32) → sProp (MT nD τ sig Unit (Elt F) ℕ UU ℕ)}
theorem run4 (c : Dev nD) (v2 v5 v8 v9 v12 v99 x : BitVec 32) (v100 : BitVec 1) (y : BitVec 32) :
    facts m K ⊢ iprop(barTok 5 c -∗ barTok 6 c -∗ barPay (peer 5 c) 5 -∗ barPay (peer 6 c) 6 -∗ ticket c .bar -∗ owe c left5
      -∗ (∀ a, (done c .bar ∗ owe c left7 ∗ barPay c 0 ∗ barPay c 1 ∗ barPay c 2 ∗ barPay c 3 ∗ barPay c 4 ∗ barPay c 5 ∗ barPay (F := F) c 6) -∗ Q a)
      -∗ run c (here (k0_part4 (F := F)) c v2 v5 v8 v9 v12 barV v99 x v100 y) Q) := by
  rw [k0_part4_eq_skeleton]
  unfold k0_part4_skel
  simp only [semSignalWord, semWaitWord, Prog.lift, Prog.bind_op, Prog.bind_ret, Prog.pure_eq_ret]
  iintro #HF Ht Ht' Hp Hp' Hb HO Hk
  iapply (enter_step m K c _ 5 (dev6_eq c) left6) $$ HF Ht Hp HO
  iintro HO
  iapply (enter_step m K c _ 6 (dev7_eq c) left7) $$ HF Ht' Hp' HO
  iintro HO
  ihave HO := (Entails.of_eq (show owe c left7 = owe c cps from rfl)) $$ HO
  iapply (entered_step m K c) $$ HF Hb HO
  iintro H
  iapply (ret_step c _ Q)
  iapply Hk; iexact H
end

/-! ## The partial sums -/

section
variable {Q : (Σ' (v165 : BitVec 32), BitVec 32) → sProp (MT nD τ sig Unit (Elt F) ℕ UU ℕ)}
theorem run5 (c : Dev nD) (v2 v5 v8 v12 v132 v134 : BitVec 32) :
    facts m K ⊢ iprop(inP m c -∗ some' c slotS 0 -∗ sendTok (.rs 0) c -∗ grant (.rs 0) (tgt (.rs 0) c) -∗ owe c left7
      -∗ (∀ a, (inP m c ∗ ticket c (.snd (.rs 0)) ∗ owe c left8) -∗ Q a)
      -∗ run c (here (k0_part5 (F := F)) c v2 v5 v8 v12 v132 v134) Q) := by
  rw [k0_part5_eq_skeleton]
  unfold k0_part5_skel
  simp only [Prog.lift, Prog.bind_op, Prog.bind_ret, Prog.pure_eq_ret]
  iintro #HF HP Hs Ht Hg HO Hk
  iapply (scatter m K 0 c (dev8_eq c) left8 (sem_rsS 0 _) (sem_rsR 0 _)) $$ HF HP Hs Ht Hg HO
  iintro H
  iapply (ret_step c _ Q)
  iapply Hk; iexact H
theorem run6 (c : Dev nD) (v2 v5 v8 v12 v165 v167 : BitVec 32) :
    facts m K ⊢ iprop(inP m c -∗ some' c slotS 1 -∗ sendTok (.rs 1) c -∗ grant (.rs 1) (tgt (.rs 1) c) -∗ owe c left8
      -∗ (∀ a, (inP m c ∗ ticket c (.snd (.rs 1)) ∗ owe c left9) -∗ Q a)
      -∗ run c (here (k0_part6 (F := F)) c v2 v5 v8 v12 v165 v167) Q) := by
  rw [k0_part6_eq_skeleton]
  unfold k0_part6_skel
  simp only [Prog.lift, Prog.bind_op, Prog.bind_ret, Prog.pure_eq_ret]
  iintro #HF HP Hs Ht Hg HO Hk
  iapply (scatter m K 1 c (dev9_eq c) left9 (sem_rsS 1 _) (sem_rsR 1 _)) $$ HF HP Hs Ht Hg HO
  iintro H
  iapply (ret_step c _ Q)
  iapply Hk; iexact H
end
section
variable {Q : (Σ' (v231 : FVec F S32x1024 .bf16), BitVec 32) → sProp (MT nD τ sig Unit (Elt F) ℕ UU ℕ)}
theorem run7 (c : Dev nD) (v2 v5 v8 v12 v198 v200 : BitVec 32) :
    facts m K ⊢ iprop(inP m c -∗ inR m c -∗ some' c slotS 2 -∗ sendTok (.rs 2) c -∗ grant (.rs 2) (tgt (.rs 2) c) -∗ owe c left9
      -∗ (∀ x, (inP m c ∗ inR m c ∗ ticket c (.snd (.rs 2)) ∗ owe c left10) -∗ Q ⟨base m c, x⟩)
      -∗ run c (here (k0_part7 (F := F)) c v2 v5 v8 v12 v198 v200) Q) := by
  rw [k0_part7_eq_skeleton]
  unfold k0_part7_skel
  simp only [Prog.lift, Prog.bind_op, Prog.bind_ret, Prog.pure_eq_ret]
  iintro #HF HP HR Hs Ht Hg HO Hk
  iapply (scatter m K 2 c (dev10_eq c) left10 (sem_rsS 2 _) (sem_rsR 2 _)) $$ HF HP Hs Ht Hg HO
  iintro ⟨HP, Hc, HO⟩
  iapply (wp_load 𝒱₀ (c : Thread nD τ) none Set.univ (m := Memref.whole cc0_stg0_0) (Finset.subset_univ _)) $$ HP
  iintro HP
  iapply (wp_load 𝒱₀ (c : Thread nD τ) none Set.univ (m := Memref.whole cc0_stg1_0) (Finset.subset_univ _)) $$ HR
  iintro HR
  iapply (ret_step c ⟨base m c, 16#32⟩ Q)
  iapply Hk
  isplitl [HP]; · iexact HP
  isplitl [HR]; · iexact HR
  isplitl [Hc]; · iexact Hc
  iexact HO
end

end Cert.KernelIdeal.Fused

end
-- ==== Proof.Reduce.lean ====
/-
The parts of the program that finish a device's own rows and gather those of its group: the partial sums arrive, the
rows are normalised, and they are exchanged within the group.
-/
module

public import proofs.«01_k».proof.Proof.Enter

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Ck → ℕ)

/-! ## What arrives -/

section
variable {α : Type} {Q : α → sProp (MT nD τ sig Unit (Elt F) ℕ UU ℕ)} {k : PUnit → Prog (TpuEff nD τ sig (Elt F) Λ₀ .tc) α}
  {sp sp' : Space} {s s' : Shape} {e e' : EltTy} {a : Memref sig .tc sp' s' e'} {b : Memref sig .tc sp s e} {ha : a.view.WordExact} {hb : b.view.WordExact}

theorem arrive_rs (j : Fin 3) (c : Dev nD) (l : List Pay) (hl : ∀ p ∈ l, klev (.rcv (.rs j)) < klev (pkind p)) {sem : DmaSem sig} (hs : sem = recvQ (.rs j))
    (hN : b.view.dmaCredit = nR) :
    facts m K ⊢ iprop(ticket c (.rcv (.rs j)) -∗ owe c l -∗ ((done c (.rcv (.rs j)) ∗ owe c l ∗ pts c (slotR j) fullShare (rsrC m c)) -∗ run c (k ⟨⟩) Q)
      -∗ run c (.op (.waitDma2 sem a b ha hb) k) Q) := arrive_step m K (.rs j) c l hl hs hN
theorem arrive_ag (j : Fin 3) (c : Dev nD) (l : List Pay) (hl : ∀ p ∈ l, klev (.rcv (.ag j)) < klev (pkind p)) {sem : DmaSem sig} (hs : sem = recvQ (.ag j))
    (hN : b.view.dmaCredit = nR) :
    facts m K ⊢ iprop(ticket c (.rcv (.ag j)) -∗ owe c l -∗ ((done c (.rcv (.ag j)) ∗ owe c l ∗ pts c (chunk (src (.ag j) c)) fullShare (grpC m c)) -∗ run c (k ⟨⟩) Q)
      -∗ run c (.op (.waitDma2 sem a b ha hb) k) Q) := arrive_step m K (.ag j) c l hl hs hN
theorem arrive_yg (j : Fin 3) (c : Dev nD) (l : List Pay) (hl : ∀ p ∈ l, klev (.rcv (.yg j)) < klev (pkind p)) {sem : DmaSem sig} (hs : sem = recvQ (.yg j))
    (hN : b.view.dmaCredit = nG) :
    facts m K ⊢ iprop(ticket c (.rcv (.yg j)) -∗ owe c l -∗ ((done c (.rcv (.yg j)) ∗ owe c l ∗ pts c (slotY j) fullShare (ygC m c)) -∗ run c (k ⟨⟩) Q)
      -∗ run c (.op (.waitDma2 sem a b ha hb) k) Q) := arrive_step m K (.yg j) c l hl hs hN
theorem arrive_xs (j : Fin 4) (c : Dev nD) (l : List Pay) (hl : ∀ p ∈ l, klev (.rcv (.xs j)) < klev (pkind p)) {sem : DmaSem sig} (hs : sem = recvQ (.xs j))
    (hN : b.view.dmaCredit = nG) :
    facts m K ⊢ iprop(ticket c (.rcv (.xs j)) -∗ owe c l -∗ ((done c (.rcv (.xs j)) ∗ owe c l ∗ pts c (slotX j) fullShare (xgC m c)) -∗ run c (k ⟨⟩) Q)
      -∗ run c (.op (.waitDma2 sem a b ha hb) k) Q) := arrive_step m K (.xs j) c l hl hs hN
end

/-! ## The normalised rows -/

section
variable {Q : FVec F S32x1024 .f32 → sProp (MT nD τ sig Unit (Elt F) ℕ UU ℕ)}
theorem run8 (c : Dev nD) (v2 v5 v132 v165 x : BitVec 32) :
    facts m K ⊢ iprop(ticket c (.rcv (.rs 0)) -∗ ticket c (.rcv (.rs 1)) -∗ owe c left10
      -∗ ((done c (.rcv (.rs 0)) ∗ done c (.rcv (.rs 1)) ∗ pts c (slotR 0) fullShare (rsrC m c) ∗ pts c (slotR 1) fullShare (rsrC m c) ∗ owe c left10)
          -∗ Q (k0_pay5 (base m c) (got m c 0) (got m c 1)))
      -∗ run c (here (k0_part8 (F := F)) v2 v5 v132 v165 (base m c) x) Q) := by
  rw [k0_part8_eq_skeleton]
  unfold k0_part8_skel
  simp only [Prog.lift, Prog.bind_op, Prog.bind_ret, Prog.pure_eq_ret]
  iintro #HF Ht Ht' HO Hk
  iapply (arrive_rs m K 0 c left10 (by decide) (sem_rsR 0 _) (credit_R 0)) $$ HF Ht HO
  iintro ⟨Hd, HO, HR⟩
  iapply (load_R m c 0) $$ HR
  iintro HR
  iapply (arrive_rs m K 1 c left10 (by decide) (sem_rsR 1 _) (credit_R 1)) $$ HF Ht' HO
  iintro ⟨Hd', HO, HR'⟩
  iapply (load_R m c 1) $$ HR'
  iintro HR'
  iapply (ret_step c (k0_pay5 (base m c) (got m c 0) (got m c 1)) Q)
  iapply Hk
  isplitl [Hd]; · iexact Hd
  isplitl [Hd']; · iexact Hd'
  isplitl [HR]; · iexact HR
  isplitl [HR']; · iexact HR'
  iexact HO
end
section
variable {Q : (Σ' (v296 : FVec F S32x1024 .f32), FVec F S32x1024 .bf16) → sProp (MT nD τ sig Unit (Elt F) ℕ UU ℕ)}
theorem run9 (c : Dev nD) (v2 v5 v8 v198 : BitVec 32) :
    facts m K ⊢ iprop(ticket c (.rcv (.rs 2)) -∗ inG m c -∗ (∃ f, pts c (chunk c) fullShare f) -∗ owe c left10
      -∗ ((done c (.rcv (.rs 2)) ∗ pts c (slotR 2) fullShare (rsrC m c) ∗ inG m c ∗ (∃ f, pts c (chunk c) fullShare f) ∗ owe c left10)
          -∗ Q ⟨normF m c, normT m c⟩)
      -∗ run c (here (k0_part9 (F := F)) c v2 v5 v8 v198 (k0_pay5 (base m c) (got m c 0) (got m c 1))) Q) := by
  rw [k0_part9_eq_skeleton]
  unfold k0_part9_skel
  simp only [Prog.lift, Prog.bind_op, Prog.bind_ret, Prog.pure_eq_ret]
  iintro #HF Ht HG ⟨%f, Hc⟩ HO Hk
  iapply (arrive_rs m K 2 c left10 (by decide) (sem_rsR 2 _) (credit_R 2)) $$ HF Ht HO
  iintro ⟨Hd, HO, HR⟩
  iapply (load_R m c 2) $$ HR
  iintro HR
  iapply (wp_load 𝒱₀ (c : Thread nD τ) none Set.univ (m := Memref.whole cc0_stg2_0) (Finset.subset_univ _)) $$ HG
  iintro HG
  iapply (load_C c c fullShare f (inb := k0_off4_inb c) (k0_off4_eq c)) $$ Hc
  iintro Hc
  iapply (ret_step c ⟨normF m c, normT m c⟩ Q)
  iapply Hk
  isplitl [Hd]; · iexact Hd
  isplitl [HR]; · iexact HR
  isplitl [HG]; · iexact HG
  isplitl [Hc]; · iexists f; iexact Hc
  iexact HO
end

/-! ## The group -/

section
variable {Q : (Σ' (v317 : BitVec 32) (v334 : BitVec 32) (v335 : BitVec 32), BitVec 32) → sProp (MT nD τ sig Unit (Elt F) ℕ UU ℕ)}
theorem run10 (c : Dev nD) (v2 v5 v8 v12 : BitVec 32) (S : Finset (Dev nD)) :
    facts m K ⊢ iprop((∃ f, pts c (chunk c) fullShare f) -∗ outRows m c S -∗ sendTok (.ag 0) c -∗ grant (.ag 0) (tgt (.ag 0) c) -∗ owe c left10
      -∗ (∀ a, (pts c (chunk c) qG (grpC m c) ∗ pts c (chunk c) (shareTok fullShare 3 1) (grpC m c) ∗ pts c (chunk c) (shareTok fullShare 3 2) (grpC m c)
            ∗ outRows m c (S ∪ {c}) ∗ ticket c (.snd (.ag 0)) ∗ owe c left11) -∗ Q a)
      -∗ run c (here (k0_part10 (F := F)) c v2 v5 v8 v12 (normF m c) (normT m c)) Q) := by
  rw [k0_part10_eq_skeleton]
  unfold k0_part10_skel
  simp only [Prog.lift, Prog.bind_op, Prog.bind_ret, Prog.pure_eq_ret]
  iintro #HF ⟨%f, Hc⟩ Hout Ht Hg HO Hk
  iapply (store_C m c f) $$ Hc
  iintro Hc
  iapply (load_out m c S) $$ Hout
  iintro %v Hout
  iapply (store_out m c S {c} (store_own m c) (fun i hi => band_one (off3_eq c) i hi)) $$ Hout
  iintro Hout
  ihave Hc := (shares c (chunk c) fullShare (grpC m c)).1 $$ Hc
  icases Hc with ⟨Hc, Hc0, Hc1, Hc2⟩
  iapply (send_ag m K 0 c (dev11_eq c) left11 (sem_agS 0 _) (sem_agR 0 _)) $$ HF Ht Hc0 Hg HO
  iintro ⟨Ht, HO⟩
  iapply (ret_step c _ Q)
  iapply Hk
  isplitl [Hc]; · iexact Hc
  isplitl [Hc1]; · iexact Hc1
  isplitl [Hc2]; · iexact Hc2
  isplitl [Hout]; · iexact Hout
  isplitl [Ht]; · iexact Ht
  iexact HO
end
section
variable {Q : (Σ' (v342 : BitVec 32) (v367 : BitVec 32), BitVec 32) → sProp (MT nD τ sig Unit (Elt F) ℕ UU ℕ)}
theorem run11 (c : Dev nD) (v2 v5 v8 v334 v335 x : BitVec 32) :
    facts m K ⊢ iprop(pts c (chunk c) (shareTok fullShare 3 1) (grpC m c) -∗ sendTok (.ag 1) c -∗ grant (.ag 1) (tgt (.ag 1) c) -∗ owe c left11
      -∗ (∀ a, (ticket c (.snd (.ag 1)) ∗ owe c left12) -∗ Q a)
      -∗ run c (here (k0_part11 (F := F)) c v2 v5 v8 v334 v335 x) Q) := by
  rw [k0_part11_eq_skeleton]
  unfold k0_part11_skel
  simp only [Prog.lift, Prog.bind_op, Prog.bind_ret, Prog.pure_eq_ret]
  iintro #HF Hc Ht Hg HO Hk
  iapply (send_ag m K 1 c (dev12_eq c) left12 (sem_agS 1 _) (sem_agR 1 _)) $$ HF Ht Hc Hg HO
  iintro H
  iapply (ret_step c _ Q)
  iapply Hk; iexact H
end
section
variable {Q : BitVec 32 → sProp (MT nD τ sig Unit (Elt F) ℕ UU ℕ)}
theorem run12 (c : Dev nD) (v2 v5 v8 v317 v367 v370 : BitVec 32) :
    facts m K ⊢ iprop(pts c (chunk c) (shareTok fullShare 3 2) (grpC m c) -∗ sendTok (.ag 2) c -∗ grant (.ag 2) (tgt (.ag 2) c) -∗ ticket c (.rcv (.ag 0)) -∗ owe c left12
      -∗ (∀ a, (ticket c (.snd (.ag 2)) ∗ done c (.rcv (.ag 0)) ∗ owe c left13 ∗ pts c (chunk (src (.ag 0) c)) fullShare (grpC m c)) -∗ Q a)
      -∗ run c (here (k0_part12 (F := F)) c v2 v5 v8 v317 v367 v370) Q) := by
  rw [k0_part12_eq_skeleton]
  unfold k0_part12_skel
  simp only [Prog.lift, Prog.bind_op, Prog.bind_ret, Prog.pure_eq_ret]
  iintro #HF Hc Ht Hg Hr HO Hk
  iapply (send_ag m K 2 c (dev13_eq c) left13 (sem_agS 2 _) (sem_agR 2 _)) $$ HF Ht Hc Hg HO
  iintro ⟨Ht, HO⟩
  iapply (arrive_ag m K 0 c left13 (by decide) (sem_agR 0 _) (credit_C c)) $$ HF Hr HO
  iintro H
  iapply (ret_step c _ Q)
  iapply Hk
  isplitl [Ht]; · iexact Ht
  iexact H
end
section
variable {Q : FVec F S32x1024 .f32 → sProp (MT nD τ sig Unit (Elt F) ℕ UU ℕ)}
theorem run13 (c : Dev nD) (v2 v5 v8 v12 v342 v403 : BitVec 32) (S : Finset (Dev nD)) :
    facts m K ⊢ iprop(pts c (chunk (src (.ag 0) c)) fullShare (grpC m c) -∗ outRows m c S -∗ ticket c (.rcv (.ag 1)) -∗ owe c left13
      -∗ ((pts c (chunk (src (.ag 0) c)) fullShare (grpC m c) ∗ pts c (chunk (src (.ag 1) c)) fullShare (grpC m c) ∗ outRows m c (S ∪ {src (.ag 0) c})
            ∗ done c (.rcv (.ag 1)) ∗ owe c left13) -∗ Q (k0_pay8 (agIn m c 1)))
      -∗ run c (here (k0_part13 (F := F)) c v2 v5 v8 v12 v342 v403) Q) := by
  rw [k0_part13_eq_skeleton]
  unfold k0_part13_skel
  simp only [Prog.lift, Prog.bind_op, Prog.bind_ret, Prog.pure_eq_ret]
  iintro #HF Hc Hout Hr HO Hk
  iapply (load_C c (src (.ag 0) c) fullShare (grpC m c) (inb := k0_off6_inb c 0) (off6_eq c 0)) $$ Hc
  iintro Hc
  iapply (load_out m c S) $$ Hout
  iintro %v Hout
  iapply (store_out m c S {src (.ag 0) c} (store_ag m c 0) (fun i hi => band_one (off7_eq c 0) i hi)) $$ Hout
  iintro Hout
  iapply (arrive_ag m K 1 c left13 (by decide) (sem_agR 1 _) (credit_C c)) $$ HF Hr HO
  iintro ⟨Hd, HO, Hc'⟩
  iapply (load_C c (src (.ag 1) c) fullShare (grpC m c) (inb := k0_off6_inb c 1) (off6_eq c 1)) $$ Hc'
  iintro Hc'
  iapply (load_out m c (S ∪ {src (.ag 0) c})) $$ Hout
  iintro %v' Hout
  iapply (ret_step c (k0_pay8 (agIn m c 1)) Q)
  iapply Hk
  isplitl [Hc]; · iexact Hc
  isplitl [Hc']; · iexact Hc'
  isplitl [Hout]; · iexact Hout
  isplitl [Hd]; · iexact Hd
  iexact HO
end
section
variable {Q : (Σ' (v472 : BitVec 32), BitVec 32) → sProp (MT nD τ sig Unit (Elt F) ℕ UU ℕ)}
theorem run14 (c : Dev nD) (v2 v5 v8 v12 v367 : BitVec 32) (S : Finset (Dev nD)) :
    facts m K ⊢ iprop(outRows m c S -∗ ticket c (.rcv (.ag 2)) -∗ owe c left13
      -∗ (∀ a, (pts c (chunk (src (.ag 2) c)) fullShare (grpC m c) ∗ outRows m c (S ∪ {src (.ag 1) c} ∪ {src (.ag 2) c})
            ∗ done c (.rcv (.ag 2)) ∗ owe c left13) -∗ Q a)
      -∗ run c (here (k0_part14 (F := F)) c v2 v5 v8 v12 v367 (k0_pay8 (agIn m c 1))) Q) := by
  rw [k0_part14_eq_skeleton]
  unfold k0_part14_skel
  simp only [Prog.lift, Prog.bind_op, Prog.bind_ret, Prog.pure_eq_ret]
  iintro #HF Hout Hr HO Hk
  iapply (store_out m c S {src (.ag 1) c} (store_ag m c 1) (fun i hi => band_one (off7_eq c 1) i hi)) $$ Hout
  iintro Hout
  iapply (arrive_ag m K 2 c left13 (by decide) (sem_agR 2 _) (credit_C c)) $$ HF Hr HO
  iintro ⟨Hd, HO, Hc⟩
  iapply (load_C c (src (.ag 2) c) fullShare (grpC m c) (inb := k0_off6_inb c 2) (off6_eq c 2)) $$ Hc
  iintro Hc
  iapply (load_out m c (S ∪ {src (.ag 1) c})) $$ Hout
  iintro %v' Hout
  iapply (store_out m c (S ∪ {src (.ag 1) c}) {src (.ag 2) c} (store_ag m c 2) (fun i hi => band_one (off7_eq c 2) i hi)) $$ Hout
  iintro Hout
  iapply (ret_step c _ Q)
  iapply Hk
  isplitl [Hc]; · iexact Hc
  isplitl [Hout]; · iexact Hout
  isplitl [Hd]; · iexact Hd
  iexact HO
end

end Cert.KernelIdeal.Fused

end
-- ==== Proof.Spread.lean ====
/-
The parts of the program that spread the groups: along `y`, along `x`, and the waits for everything a device lent.
-/
module

public import proofs.«01_k».proof.Proof.Reduce

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Ck → ℕ)

/-! ## What comes back -/

section
variable {α : Type} {Q : α → sProp (MT nD τ sig Unit (Elt F) ℕ UU ℕ)} {k : PUnit → Prog (TpuEff nD τ sig (Elt F) Λ₀ .tc) α}
  {sp sp' : Space} {s s' : Shape} {e e' : EltTy} {a : Memref sig .tc sp' s' e'} {b : Memref sig .tc sp s e} {ha : a.view.WordExact} {hb : b.view.WordExact}

theorem back_rs (j : Fin 3) (c : Dev nD) {sem : DmaSem sig} (hs : sem = sendQ (.rs j)) (hN : b.view.dmaCredit = nR) :
    facts m K ⊢ iprop(ticket c (.snd (.rs j)) -∗ owe c left20 -∗ ((done c (.snd (.rs j)) ∗ owe c left20 ∗ pts c (slotS j) fullShare (rssC m c)) -∗ run c (k ⟨⟩) Q)
      -∗ run c (.op (.waitDma2 sem a b ha hb) k) Q) := back_step m K (.rs j) c hs hN
theorem back_ag (j : Fin 3) (c : Dev nD) {sem : DmaSem sig} (hs : sem = sendQ (.ag j)) (hN : b.view.dmaCredit = nR) :
    facts m K ⊢ iprop(ticket c (.snd (.ag j)) -∗ owe c left20 -∗ ((done c (.snd (.ag j)) ∗ owe c left20 ∗ pts c (chunk c) (shareTok fullShare 3 j) (grpC m c)) -∗ run c (k ⟨⟩) Q)
      -∗ run c (.op (.waitDma2 sem a b ha hb) k) Q) := back_step m K (.ag j) c hs hN
theorem back_yg (j : Fin 3) (c : Dev nD) {sem : DmaSem sig} (hs : sem = sendQ (.yg j)) (hN : b.view.dmaCredit = nG) :
    facts m K ⊢ iprop(ticket c (.snd (.yg j)) -∗ owe c left20 -∗ ((done c (.snd (.yg j)) ∗ owe c left20 ∗ pts c grpM (shareTok qG 3 j) (grpC m c)) -∗ run c (k ⟨⟩) Q)
      -∗ run c (.op (.waitDma2 sem a b ha hb) k) Q) := back_step m K (.yg j) c hs hN
theorem back_x0 (c : Dev nD) {sem : DmaSem sig} (hs : sem = sendQ (.xs 0)) (hN : b.view.dmaCredit = nG) :
    facts m K ⊢ iprop(ticket c (.snd (.xs 0)) -∗ owe c left20 -∗ ((done c (.snd (.xs 0)) ∗ owe c left20 ∗ pts c grpM (shareDrop qG 3) (grpC m c)) -∗ run c (k ⟨⟩) Q)
      -∗ run c (.op (.waitDma2 sem a b ha hb) k) Q) := back_step m K (.xs 0) c hs hN
theorem back_xs (j : Fin 3) (i : Fin 4) (hi : i = j.succ) (c : Dev nD) {sem : DmaSem sig} (hs : sem = sendQ (.xs i)) (hN : b.view.dmaCredit = nG) :
    facts m K ⊢ iprop(ticket c (.snd (.xs i)) -∗ owe c left20 -∗ ((done c (.snd (.xs i)) ∗ owe c left20 ∗ pts c (slotY j) fullShare.left (ygC m c)) -∗ run c (k ⟨⟩) Q)
      -∗ run c (.op (.waitDma2 sem a b ha hb) k) Q) := by subst hi; exact back_step m K (.xs j.succ) c hs hN
end

section Steps
variable {α : Type} {Q : α → sProp (MT nD τ sig Unit (Elt F) ℕ UU ℕ)} {k : PUnit → Prog (TpuEff nD τ sig (Elt F) Λ₀ .tc) α}

/-- A group received along `y` is loaded and written out. -/
theorem show_yg (j : Fin 3) (c : Dev nD) (q : PosShare TreeShare) (S : Finset (Dev nD)) {hl hl' hx hm} :
    pts c (slotY j) q (ygC m c) ⊢ iprop(outRows m c S -∗ ((pts c (slotY j) q (ygC m c) ∗ outRows m c (S ∪ grp (src (.yg j) c))) -∗ run c (k ⟨⟩) Q)
      -∗ run c (.op (.load (Memref.whole cc0_scratch3) (Rect.unit (s := S3x128x1024) ![j.val, 0, 0] S1x128x1024.size (inbY j)).toLoadRect hl)
          fun v => .op (.load (Memref.whole cc0_stg3_0) (Rect.unit (s := S1024x1024) (k0_off8 c (BitVec.ofNat 32 j.val)) S128x1024.size (k0_off8_inb c j)).toLoadRect hl')
          fun _ => .op (.store (Memref.whole cc0_stg3_0) (Rect.unit (s := S1024x1024) (k0_off8 c (BitVec.ofNat 32 j.val)) S128x1024.size (k0_off8_inb c j)) (k0_pay11 v) Finset.univ hx hm) k) Q) := by
  iintro HY Hout Hk
  iapply (load_Y m c j q) $$ HY
  iintro HY
  iapply (load_out m c S) $$ Hout
  iintro %v Hout
  iapply (store_out m c S (grp (src (.yg j) c)) (store_yg m c j) (fun i hi => band_group (off8_eq c j) i hi)) $$ Hout
  iintro Hout
  iapply Hk
  isplitl [HY]; · iexact HY
  iexact Hout

/-- A group received along `x` from the device beyond, in slot `j + 1`, likewise. -/
theorem show_xs (j : Fin 3) (i : Fin 4) (hi : i = j.succ) (c : Dev nD) (S : Finset (Dev nD)) {hl hl' hx hm} :
    pts c (slotX i) fullShare (xgC m c) ⊢ iprop(outRows m c S -∗ ((pts c (slotX i) fullShare (xgC m c) ∗ outRows m c (S ∪ grp (yup (flip c) (j.val + 1)))) -∗ run c (k ⟨⟩) Q)
      -∗ run c (.op (.load (Memref.whole cc0_scratch4) (Rect.unit (s := S4x128x1024) ![i.val, 0, 0] S1x128x1024.size (inbX i)).toLoadRect hl)
          fun v => .op (.load (Memref.whole cc0_stg3_0) (Rect.unit (s := S1024x1024) (k0_off10 c (BitVec.ofNat 32 j.val)) S128x1024.size (k0_off10_inb c j)).toLoadRect hl')
          fun _ => .op (.store (Memref.whole cc0_stg3_0) (Rect.unit (s := S1024x1024) (k0_off10 c (BitVec.ofNat 32 j.val)) S128x1024.size (k0_off10_inb c j)) (k0_pay11 v) Finset.univ hx hm) k) Q) := by
  subst hi
  iintro HX Hout Hk
  iapply (load_X m c j.succ) $$ HX
  iintro HX
  iapply (load_out m c S) $$ Hout
  iintro %v Hout
  iapply (store_out m c S (grp (yup (flip c) (j.val + 1))) (store_xs m c j) (fun i hi => band_group (off10_eq c j) i hi)) $$ Hout
  iintro Hout
  iapply Hk
  isplitl [HX]; · iexact HX
  iexact Hout
end Steps

/-! ## Along `y` -/

section
variable {Q : (Σ' (v482 : BitVec 32) (v505 : BitVec 32) (v507 : BitVec 32), BitVec 32) → sProp (MT nD τ sig Unit (Elt F) ℕ UU ℕ)}
theorem run15 (c : Dev nD) (v2 v5 v8 v472 v474 : BitVec 32) :
    facts m K ⊢ iprop(pts c grpM (shareTok qG 3 0) (grpC m c) -∗ sendTok (.yg 0) c -∗ grant (.yg 0) (tgt (.yg 0) c) -∗ owe c left13
      -∗ (∀ a, (ticket c (.snd (.yg 0)) ∗ owe c left14) -∗ Q a)
      -∗ run c (here (k0_part15 (F := F)) c v2 v5 v8 v472 v474) Q) := by
  rw [k0_part15_eq_skeleton]
  unfold k0_part15_skel
  simp only [Prog.lift, Prog.bind_op, Prog.bind_ret, Prog.pure_eq_ret]
  iintro #HF Hs Ht Hg HO Hk
  iapply (send_yg m K 0 c (dev14_eq c) left14 (sem_ygS 0 _) (sem_ygR 0 _)) $$ HF Ht Hs Hg HO
  iintro H
  iapply (ret_step c _ Q)
  iapply Hk; iexact H
end
section
variable {Q : (Σ' (v528 : BitVec 32), BitVec 32) → sProp (MT nD τ sig Unit (Elt F) ℕ UU ℕ)}
theorem run16 (c : Dev nD) (v2 v5 v8 v9 v507 v508 : BitVec 32) :
    facts m K ⊢ iprop(pts c grpM (shareTok qG 3 1) (grpC m c) -∗ pts c grpM (shareTok qG 3 2) (grpC m c) -∗ sendTok (.yg 1) c -∗ sendTok (.yg 2) c
      -∗ grant (.yg 1) (tgt (.yg 1) c) -∗ grant (.yg 2) (tgt (.yg 2) c) -∗ owe c left14
      -∗ (∀ a, (ticket c (.snd (.yg 1)) ∗ ticket c (.snd (.yg 2)) ∗ owe c left16) -∗ Q a)
      -∗ run c (here (k0_part16 (F := F)) c v2 v5 v8 v9 v507 v508) Q) := by
  rw [k0_part16_eq_skeleton]
  unfold k0_part16_skel
  simp only [Prog.lift, Prog.bind_op, Prog.bind_ret, Prog.pure_eq_ret]
  iintro #HF Hs Hs' Ht Ht' Hg Hg' HO Hk
  iapply (send_yg m K 1 c (dev15_eq c) left15 (sem_ygS 1 _) (sem_ygR 1 _)) $$ HF Ht Hs Hg HO
  iintro ⟨Ht, HO⟩
  iapply (send_yg m K 2 c (dev16_eq c) left16 (sem_ygS 2 _) (sem_ygR 2 _)) $$ HF Ht' Hs' Hg' HO
  iintro H
  iapply (ret_step c _ Q)
  iapply Hk
  isplitl [Ht]; · iexact Ht
  iexact H
end

/-! ## Along `x` -/

section
variable {Q : PUnit → sProp (MT nD τ sig Unit (Elt F) ℕ UU ℕ)}
theorem run17 (c : Dev nD) (v2 v5 v8 v9 v482 v542 : BitVec 32) :
    facts m K ⊢ iprop(pts c grpM (shareDrop qG 3) (grpC m c) -∗ sendTok (.xs 0) c -∗ grant (.xs 0) (tgt (.xs 0) c) -∗ ticket c (.rcv (.yg 0)) -∗ owe c left16
      -∗ ((ticket c (.snd (.xs 0)) ∗ done c (.rcv (.yg 0)) ∗ owe c left17 ∗ pts c (slotY 0) fullShare (ygC m c)) -∗ Q ⟨⟩)
      -∗ run c (here (k0_part17 (F := F)) c v2 v5 v8 v9 v482 v542) Q) := by
  rw [k0_part17_eq_skeleton]
  unfold k0_part17_skel
  simp only [Prog.lift, Prog.bind_op, Prog.bind_ret, Prog.pure_eq_ret]
  iintro #HF Hs Ht Hg Hr HO Hk
  iapply (send_x0 m K c (dev17_eq c) left17 (sem_xsS 0 _) (sem_xsR 0 _)) $$ HF Ht Hs Hg HO
  iintro ⟨Ht, HO⟩
  iapply (arrive_yg m K 0 c left17 (by decide) (sem_ygR 0 _) (credit_Y 0)) $$ HF Hr HO
  iintro H
  iapply (ret_step c _ Q)
  iapply Hk
  isplitl [Ht]; · iexact Ht
  iexact H
theorem run18 (c : Dev nD) (v2 v5 v8 v505 : BitVec 32) (S : Finset (Dev nD)) :
    facts m K ⊢ iprop(pts c (slotY 0) fullShare (ygC m c) -∗ sendTok (.xs 1) c -∗ grant (.xs 1) (tgt (.xs 1) c) -∗ outRows m c S -∗ ticket c (.rcv (.yg 1)) -∗ owe c left17
      -∗ ((pts c (slotY 0) fullShare.right (ygC m c) ∗ ticket c (.snd (.xs 1)) ∗ outRows m c (S ∪ grp (src (.yg 0) c))
            ∗ done c (.rcv (.yg 1)) ∗ owe c left18 ∗ pts c (slotY 1) fullShare (ygC m c)) -∗ Q ⟨⟩)
      -∗ run c (here (k0_part18 (F := F)) c v2 v5 v8 v505) Q) := by
  rw [k0_part18_eq_skeleton]
  unfold k0_part18_skel
  simp only [Prog.lift, Prog.bind_op, Prog.bind_ret, Prog.pure_eq_ret]
  iintro #HF HY Ht Hg Hout Hr HO Hk
  ihave HY := (halves c (slotY 0) fullShare (ygC m c)).1 $$ HY
  icases HY with ⟨HL, HR⟩
  iapply (send_xs m K 0 1 rfl c (dev18_eq c) left18 (sem_xsS 1 _) (sem_xsR 1 _)) $$ HF Ht HL Hg HO
  iintro ⟨Ht, HO⟩
  iapply (show_yg m 0 c fullShare.right S) $$ HR Hout
  iintro ⟨HR, Hout⟩
  iapply (arrive_yg m K 1 c left18 (by decide) (sem_ygR 1 _) (credit_Y 1)) $$ HF Hr HO
  iintro H
  iapply (ret_step c _ Q)
  iapply Hk
  isplitl [HR]; · iexact HR
  isplitl [Ht]; · iexact Ht
  isplitl [Hout]; · iexact Hout
  iexact H
theorem run19 (c : Dev nD) (v2 v5 v8 v9 : BitVec 32) (S : Finset (Dev nD)) :
    facts m K ⊢ iprop(pts c (slotY 1) fullShare (ygC m c) -∗ sendTok (.xs 2) c -∗ grant (.xs 2) (tgt (.xs 2) c) -∗ outRows m c S -∗ owe c left18
      -∗ ((pts c (slotY 1) fullShare.right (ygC m c) ∗ ticket c (.snd (.xs 2)) ∗ outRows m c (S ∪ grp (src (.yg 1) c)) ∗ owe c left19) -∗ Q ⟨⟩)
      -∗ run c (here (k0_part19 (F := F)) c v2 v5 v8 v9) Q) := by
  rw [k0_part19_eq_skeleton]
  unfold k0_part19_skel
  simp only [Prog.lift, Prog.bind_op, Prog.bind_ret, Prog.pure_eq_ret]
  iintro #HF HY Ht Hg Hout HO Hk
  ihave HY := (halves c (slotY 1) fullShare (ygC m c)).1 $$ HY
  icases HY with ⟨HL, HR⟩
  iapply (send_xs m K 1 2 rfl c (dev19_eq c) left19 (sem_xsS 2 _) (sem_xsR 2 _)) $$ HF Ht HL Hg HO
  iintro ⟨Ht, HO⟩
  iapply (show_yg m 1 c fullShare.right S) $$ HR Hout
  iintro ⟨HR, Hout⟩
  iapply (ret_step c _ Q)
  iapply Hk
  isplitl [HR]; · iexact HR
  isplitl [Ht]; · iexact Ht
  isplitl [Hout]; · iexact Hout
  iexact HO
end
section
variable {Q : (Σ' (v668 : BitVec 32) (v669 : BitVec 32) (v670 : BitVec 1), BitVec 1) → sProp (MT nD τ sig Unit (Elt F) ℕ UU ℕ)}
theorem run20 (c : Dev nD) (v2 v5 v8 v9 v528 : BitVec 32) :
    facts m K ⊢ iprop(ticket c (.rcv (.yg 2)) -∗ sendTok (.xs 3) c -∗ grant (.xs 3) (tgt (.xs 3) c) -∗ owe c left19
      -∗ (∀ a, (done c (.rcv (.yg 2)) ∗ pts c (slotY 2) fullShare.right (ygC m c) ∗ ticket c (.snd (.xs 3)) ∗ owe c left20) -∗ Q a)
      -∗ run c (here (k0_part20 (F := F)) c v2 v5 v8 v9 v528) Q) := by
  rw [k0_part20_eq_skeleton]
  unfold k0_part20_skel
  simp only [Prog.lift, Prog.bind_op, Prog.bind_ret, Prog.pure_eq_ret]
  iintro #HF Hr Ht Hg HO Hk
  iapply (arrive_yg m K 2 c left19 (by decide) (sem_ygR 2 _) (credit_Y 2)) $$ HF Hr HO
  iintro ⟨Hd, HO, HY⟩
  ihave HY := (halves c (slotY 2) fullShare (ygC m c)).1 $$ HY
  icases HY with ⟨HL, HR⟩
  iapply (send_xs m K 2 3 rfl c (dev20_eq c) left20 (sem_xsS 3 _) (sem_xsR 3 _)) $$ HF Ht HL Hg HO
  iintro H
  iapply (ret_step c _ Q)
  iapply Hk
  isplitl [Hd]; · iexact Hd
  isplitl [HR]; · iexact HR
  iexact H
end
section
variable {Q : PUnit → sProp (MT nD τ sig Unit (Elt F) ℕ UU ℕ)}
theorem run21 (c : Dev nD) (v2 v5 v8 v9 v668 v669 : BitVec 32) (v670 v671 : BitVec 1) (S : Finset (Dev nD)) :
    facts m K ⊢ iprop(pts c (slotY 2) fullShare.right (ygC m c) -∗ outRows m c S -∗ ticket c (.rcv (.xs 0)) -∗ owe c left20
      -∗ ((pts c (slotY 2) fullShare.right (ygC m c) ∗ outRows m c (S ∪ grp (src (.yg 2) c) ∪ grp (flip c)) ∗ done c (.rcv (.xs 0))
            ∗ pts c (slotX 0) fullShare (xgC m c) ∗ owe c left20) -∗ Q ⟨⟩)
      -∗ run c (here (k0_part21 (F := F)) c v2 v5 v8 v9 v668 v669 v670 v671) Q) := by
  rw [k0_part21_eq_skeleton]
  unfold k0_part21_skel
  simp only [Prog.lift, Prog.bind_op, Prog.bind_ret, Prog.pure_eq_ret]
  iintro #HF HR Hout Hr HO Hk
  iapply (show_yg m 2 c fullShare.right S) $$ HR Hout
  iintro ⟨HR, Hout⟩
  iapply (arrive_xs m K 0 c left20 (by decide) (sem_xsR 0 _) (credit_X 0)) $$ HF Hr HO
  iintro ⟨Hd, HO, HX⟩
  iapply (load_X m c 0) $$ HX
  iintro HX
  iapply (load_out m c (S ∪ grp (src (.yg 2) c))) $$ Hout
  iintro %v Hout
  iapply (store_out m c (S ∪ grp (src (.yg 2) c)) (grp (flip c)) (store_x0 m c) (fun i hi => band_group (off9_eq c) i hi)) $$ Hout
  iintro Hout
  iapply (ret_step c _ Q)
  iapply Hk
  isplitl [HR]; · iexact HR
  isplitl [Hout]; · iexact Hout
  isplitl [Hd]; · iexact Hd
  isplitl [HX]; · iexact HX
  iexact HO
theorem run22 (c : Dev nD) (v5 v8 v9 : BitVec 32) (S : Finset (Dev nD)) :
    facts m K ⊢ iprop(outRows m c S -∗ ticket c (.rcv (.xs 1)) -∗ owe c left20
      -∗ ((pts c (slotX 1) fullShare (xgC m c) ∗ outRows m c (S ∪ grp (yup (flip c) (((0 : Fin 3) : ℕ) + 1))) ∗ done c (.rcv (.xs 1)) ∗ owe c left20) -∗ Q ⟨⟩)
      -∗ run c (here (k0_part22 (F := F)) c v5 v8 v9) Q) := by
  rw [k0_part22_eq_skeleton]
  unfold k0_part22_skel
  simp only [Prog.lift, Prog.bind_op, Prog.bind_ret, Prog.pure_eq_ret]
  iintro #HF Hout Hr HO Hk
  iapply (arrive_xs m K 1 c left20 (by decide) (sem_xsR 1 _) (credit_X 1)) $$ HF Hr HO
  iintro ⟨Hd, HO, HX⟩
  iapply (show_xs m 0 1 rfl c S) $$ HX Hout
  iintro ⟨HX, Hout⟩
  iapply (ret_step c _ Q)
  iapply Hk
  isplitl [HX]; · iexact HX
  isplitl [Hout]; · iexact Hout
  isplitl [Hd]; · iexact Hd
  iexact HO
theorem run23 (c : Dev nD) (v5 v8 v9 : BitVec 32) (S : Finset (Dev nD)) :
    facts m K ⊢ iprop(outRows m c S -∗ ticket c (.rcv (.xs 2)) -∗ owe c left20
      -∗ ((pts c (slotX 2) fullShare (xgC m c) ∗ outRows m c (S ∪ grp (yup (flip c) (((1 : Fin 3) : ℕ) + 1))) ∗ done c (.rcv (.xs 2)) ∗ owe c left20) -∗ Q ⟨⟩)
      -∗ run c (here (k0_part23 (F := F)) c v5 v8 v9) Q) := by
  rw [k0_part23_eq_skeleton]
  unfold k0_part23_skel
  simp only [Prog.lift, Prog.bind_op, Prog.bind_ret, Prog.pure_eq_ret]
  iintro #HF Hout Hr HO Hk
  iapply (arrive_xs m K 2 c left20 (by decide) (sem_xsR 2 _) (credit_X 2)) $$ HF Hr HO
  iintro ⟨Hd, HO, HX⟩
  iapply (show_xs m 1 2 rfl c S) $$ HX Hout
  iintro ⟨HX, Hout⟩
  iapply (ret_step c _ Q)
  iapply Hk
  isplitl [HX]; · iexact HX
  isplitl [Hout]; · iexact Hout
  isplitl [Hd]; · iexact Hd
  iexact HO
theorem run24 (c : Dev nD) (v5 v8 v9 : BitVec 32) (S : Finset (Dev nD)) :
    facts m K ⊢ iprop(outRows m c S -∗ ticket c (.rcv (.xs 3)) -∗ owe c left20
      -∗ ((pts c (slotX 3) fullShare (xgC m c) ∗ outRows m c (S ∪ grp (yup (flip c) (((2 : Fin 3) : ℕ) + 1))) ∗ done c (.rcv (.xs 3)) ∗ owe c left20) -∗ Q ⟨⟩)
      -∗ run c (here (k0_part24 (F := F)) c v5 v8 v9) Q) := by
  rw [k0_part24_eq_skeleton]
  unfold k0_part24_skel
  simp only [Prog.lift, Prog.bind_op, Prog.bind_ret, Prog.pure_eq_ret]
  iintro #HF Hout Hr HO Hk
  iapply (arrive_xs m K 3 c left20 (by decide) (sem_xsR 3 _) (credit_X 3)) $$ HF Hr HO
  iintro ⟨Hd, HO, HX⟩
  iapply (show_xs m 2 3 rfl c S) $$ HX Hout
  iintro ⟨HX, Hout⟩
  iapply (ret_step c _ Q)
  iapply Hk
  isplitl [HX]; · iexact HX
  isplitl [Hout]; · iexact Hout
  isplitl [Hd]; · iexact Hd
  iexact HO

/-! ## The last waits -/

theorem run25 (c : Dev nD) :
    facts m K ⊢ iprop(ticket c (.snd (.rs 0)) -∗ ticket c (.snd (.rs 1)) -∗ ticket c (.snd (.rs 2)) -∗ ticket c (.snd (.ag 0)) -∗ owe c left20
      -∗ (((done c (.snd (.rs 0)) ∗ done c (.snd (.rs 1)) ∗ done c (.snd (.rs 2)) ∗ done c (.snd (.ag 0)))
            ∗ (pts c (slotS 0) fullShare (rssC m c) ∗ pts c (slotS 1) fullShare (rssC m c) ∗ pts c (slotS 2) fullShare (rssC m c))
            ∗ pts c (chunk c) (shareTok fullShare 3 0) (grpC m c) ∗ owe c left20) -∗ Q ⟨⟩)
      -∗ run c (here (k0_part25 (F := F)) c) Q) := by
  rw [k0_part25_eq_skeleton]
  unfold k0_part25_skel
  simp only [Prog.lift, Prog.bind_op, Prog.bind_ret, Prog.pure_eq_ret]
  iintro #HF T0 T1 T2 T3 HO Hk
  iapply (back_rs m K 0 c (sem_rsS 0 _) (credit_S 0)) $$ HF T0 HO
  iintro ⟨D0, HO, B0⟩
  iapply (back_rs m K 1 c (sem_rsS 1 _) (credit_S 1)) $$ HF T1 HO
  iintro ⟨D1, HO, B1⟩
  iapply (back_rs m K 2 c (sem_rsS 2 _) (credit_S 2)) $$ HF T2 HO
  iintro ⟨D2, HO, B2⟩
  iapply (back_ag m K 0 c (sem_agS 0 _) (credit_C c)) $$ HF T3 HO
  iintro ⟨D3, HO, B3⟩
  iapply (ret_step c _ Q)
  iapply Hk
  isplitl [D0 D1 D2 D3]
  · isplitl [D0]; · iexact D0
    isplitl [D1]; · iexact D1
    isplitl [D2]; · iexact D2
    iexact D3
  isplitl [B0 B1 B2]
  · isplitl [B0]; · iexact B0
    isplitl [B1]; · iexact B1
    iexact B2
  isplitl [B3]; · iexact B3
  iexact HO
theorem run26 (c : Dev nD) :
    facts m K ⊢ iprop(ticket c (.snd (.ag 1)) -∗ ticket c (.snd (.ag 2)) -∗ ticket c (.snd (.yg 0)) -∗ ticket c (.snd (.yg 1)) -∗ ticket c (.snd (.yg 2))
      -∗ ticket c (.snd (.xs 0)) -∗ owe c left20
      -∗ (((done c (.snd (.ag 1)) ∗ done c (.snd (.ag 2)) ∗ done c (.snd (.yg 0)) ∗ done c (.snd (.yg 1)) ∗ done c (.snd (.yg 2)) ∗ done c (.snd (.xs 0)))
            ∗ (pts c (chunk c) (shareTok fullShare 3 1) (grpC m c) ∗ pts c (chunk c) (shareTok fullShare 3 2) (grpC m c))
            ∗ (pts c grpM (shareDrop qG 3) (grpC m c) ∗ pts c grpM (shareTok qG 3 0) (grpC m c) ∗ pts c grpM (shareTok qG 3 1) (grpC m c) ∗ pts c grpM (shareTok qG 3 2) (grpC m c))
            ∗ owe c left20) -∗ Q ⟨⟩)
      -∗ run c (here (k0_part26 (F := F)) c) Q) := by
  rw [k0_part26_eq_skeleton]
  unfold k0_part26_skel
  simp only [Prog.lift, Prog.bind_op, Prog.bind_ret, Prog.pure_eq_ret]
  iintro #HF T0 T1 T2 T3 T4 T5 HO Hk
  iapply (back_ag m K 1 c (sem_agS 1 _) (credit_C c)) $$ HF T0 HO
  iintro ⟨D0, HO, B0⟩
  iapply (back_ag m K 2 c (sem_agS 2 _) (credit_C c)) $$ HF T1 HO
  iintro ⟨D1, HO, B1⟩
  iapply (back_yg m K 0 c (sem_ygS 0 _) rfl) $$ HF T2 HO
  iintro ⟨D2, HO, B2⟩
  iapply (back_yg m K 1 c (sem_ygS 1 _) rfl) $$ HF T3 HO
  iintro ⟨D3, HO, B3⟩
  iapply (back_yg m K 2 c (sem_ygS 2 _) rfl) $$ HF T4 HO
  iintro ⟨D4, HO, B4⟩
  iapply (back_x0 m K c (sem_xsS 0 _) rfl) $$ HF T5 HO
  iintro ⟨D5, HO, B5⟩
  iapply (ret_step c _ Q)
  iapply Hk
  isplitl [D0 D1 D2 D3 D4 D5]
  · isplitl [D0]; · iexact D0
    isplitl [D1]; · iexact D1
    isplitl [D2]; · iexact D2
    isplitl [D3]; · iexact D3
    isplitl [D4]; · iexact D4
    iexact D5
  isplitl [B0 B1]
  · isplitl [B0]; · iexact B0
    iexact B1
  isplitl [B2 B3 B4 B5]
  · isplitl [B5]; · iexact B5
    isplitl [B2]; · iexact B2
    isplitl [B3]; · iexact B3
    iexact B4
  iexact HO
end

end Cert.KernelIdeal.Fused

end
-- ==== Proof.Whole.lean ====
/-
What a device hands over as it enters, and what it holds again at the end.
-/
module

public import proofs.«01_k».proof.Proof.Spread

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

/-- One of each transfer's. -/
abbrev allTr (P : Tr → sProp 𝕄) : sProp 𝕄 :=
  iprop(P (.rs 0) ∗ P (.rs 1) ∗ P (.rs 2) ∗ P (.ag 0) ∗ P (.ag 1) ∗ P (.ag 2) ∗ P (.yg 0) ∗ P (.yg 1) ∗ P (.yg 2)
    ∗ P (.xs 0) ∗ P (.xs 1) ∗ P (.xs 2) ∗ P (.xs 3))
theorem allTr_eq (P : Tr → sProp 𝕄) : bigSep Finset.univ P = allTr P :=
  bigSep_univ_eq_bigSepL trs (by decide) (by decide) _
/-- One of each peer's. -/
abbrev allPeer (P : Fin 7 → sProp 𝕄) : sProp 𝕄 := iprop(P 0 ∗ P 1 ∗ P 2 ∗ P 3 ∗ P 4 ∗ P 5 ∗ P 6)
theorem allPeer_eq (P : Fin 7 → sProp 𝕄) : bigSep Finset.univ P = allPeer P :=
  bigSep_univ_eq_bigSepL ([0, 1, 2, 3, 4, 5, 6] : List (Fin 7)) (by decide) (by decide) _

omit [FloatOps F] in
theorem grant_at (t : Tr) (d c : Dev nD) (h : d = src t c) : (grant t c : sProp 𝕄) = grant t (tgt t d) := by
  subst h; rw [tgt_src]

/-- Entering at its peers, a device hands over every window that is received into. -/
theorem hand (c : Dev nD) :
    (iprop((∃ f, ((c : Thread nD τ).loc cc0_scratch1) ↦{fullShare} f) ∗ (∃ f, ((c : Thread nD τ).loc cc0_scratch2) ↦{fullShare} f)
      ∗ (∃ f, ((c : Thread nD τ).loc cc0_scratch3) ↦{fullShare} f) ∗ (∃ f, ((c : Thread nD τ).loc cc0_scratch4) ↦{fullShare} f)) : sProp 𝕄)
    ⊢ iprop((∃ f, pts c (chunk c) fullShare f) ∗ allPeer fun i => barPay (F := F) (peer i c) i) := by
  have hG : (iprop(∃ f, ((c : Thread nD τ).loc cc0_scratch2) ↦{fullShare} f) : sProp 𝕄)
      ⊢ iprop((∃ f, pts c (chunk c) fullShare f) ∗ grant (.ag 0) c ∗ grant (.ag 1) c ∗ grant (.ag 2) c) := by
    dsimp only [grant]
    iintro ⟨%f, H⟩
    ihave H := (Entails.of_eq ((pts_grp c fullShare f).symm.trans (group_chunks c fullShare f))) $$ H
    icases H with ⟨H, H0, H1, H2⟩
    isplitl [H]; · iexists f; iexact H
    isplitl [H0]; · iexists f; iexact H0
    isplitl [H1]; · iexists f; iexact H1
    iexists f; iexact H2
  have hR : (iprop(∃ f, ((c : Thread nD τ).loc cc0_scratch1) ↦{fullShare} f) : sProp 𝕄) ⊢ iprop(grant (.rs 0) c ∗ grant (.rs 1) c ∗ grant (.rs 2) c) := split_R c
  have hY : (iprop(∃ f, ((c : Thread nD τ).loc cc0_scratch3) ↦{fullShare} f) : sProp 𝕄) ⊢ iprop(grant (.yg 0) c ∗ grant (.yg 1) c ∗ grant (.yg 2) c) := split_Y c
  have hX : (iprop(∃ f, ((c : Thread nD τ).loc cc0_scratch4) ↦{fullShare} f) : sProp 𝕄) ⊢ iprop(grant (.xs 0) c ∗ grant (.xs 1) c ∗ grant (.xs 2) c ∗ grant (.xs 3) c) := split_X c
  refine (show _ ⊢ iprop((∃ f, pts c (chunk c) fullShare f) ∗ (grant (.rs 0) c ∗ grant (.ag 0) c) ∗ (grant (.rs 1) c ∗ grant (.ag 1) c) ∗ (grant (.rs 2) c ∗ grant (.ag 2) c)
      ∗ grant (.yg 0) c ∗ grant (.yg 1) c ∗ grant (.yg 2) c ∗ grant (.xs 0) c ∗ grant (.xs 1) c ∗ grant (.xs 2) c ∗ grant (.xs 3) c) from ?_).trans (Entails.of_eq ?_)
  · iintro ⟨H1, H2, H3, H4⟩
    ihave H1 := hR $$ H1
    ihave H2 := hG $$ H2
    ihave H3 := hY $$ H3
    ihave H4 := hX $$ H4
    icases H1 with ⟨R0, R1, R2⟩
    icases H2 with ⟨C, A0, A1, A2⟩
    icases H3 with ⟨Y0, Y1, Y2⟩
    isplitl [C]; · iexact C
    isplitl [R0 A0]; · isplitl [R0]; · iexact R0
                       iexact A0
    isplitl [R1 A1]; · isplitl [R1]; · iexact R1
                       iexact A1
    isplitl [R2 A2]; · isplitl [R2]; · iexact R2
                       iexact A2
    isplitl [Y0]; · iexact Y0
    isplitl [Y1]; · iexact Y1
    isplitl [Y2]; · iexact Y2
    iexact H4
  · rw [grant_at (.rs 0) (peer 0 c) c rfl, grant_at (.rs 1) (peer 1 c) c rfl, grant_at (.rs 2) (peer 2 c) c rfl,
      grant_at (.ag 0) (peer 0 c) c rfl, grant_at (.ag 1) (peer 1 c) c rfl, grant_at (.ag 2) (peer 2 c) c rfl,
      grant_at (.yg 0) (peer 3 c) c rfl, grant_at (.yg 1) (peer 4 c) c rfl, grant_at (.yg 2) (peer 5 c) c rfl,
      grant_at (.xs 0) (peer 6 c) c rfl, grant_at (.xs 1) (peer 6 c) c rfl, grant_at (.xs 2) (peer 6 c) c rfl, grant_at (.xs 3) (peer 6 c) c rfl]
    rfl

/-- The rows of a group, each in four shares, come together as the whole group in four shares: the part kept, -/
theorem group_keep (c : Dev nD) (f : Buf (Elt F) ((c : Thread nD τ).loc cc0_scratch2)) :
    (iprop(pts c (chunk c) qG f ∗ pts c (chunk (src (.ag 0) c)) fullShare f ∗ pts c (chunk (src (.ag 1) c)) fullShare f ∗ pts c (chunk (src (.ag 2) c)) fullShare f) : sProp 𝕄)
    ⊢ iprop((pts c grpM (shareDrop qG 3) f ∗ pts c grpM (shareTok qG 3 0) f ∗ pts c grpM (shareTok qG 3 1) f ∗ pts c grpM (shareTok qG 3 2) f)
      ∗ (pts c (chunk (src (.ag 0) c)) (shareTok fullShare 3 0) f ∗ pts c (chunk (src (.ag 0) c)) (shareTok fullShare 3 1) f ∗ pts c (chunk (src (.ag 0) c)) (shareTok fullShare 3 2) f)
      ∗ (pts c (chunk (src (.ag 1) c)) (shareTok fullShare 3 0) f ∗ pts c (chunk (src (.ag 1) c)) (shareTok fullShare 3 1) f ∗ pts c (chunk (src (.ag 1) c)) (shareTok fullShare 3 2) f)
      ∗ (pts c (chunk (src (.ag 2) c)) (shareTok fullShare 3 0) f ∗ pts c (chunk (src (.ag 2) c)) (shareTok fullShare 3 1) f ∗ pts c (chunk (src (.ag 2) c)) (shareTok fullShare 3 2) f)) := by
  iintro ⟨H, H0, H1, H2⟩
  ihave H0 := (shares c (chunk (src (.ag 0) c)) fullShare f).1 $$ H0
  ihave H1 := (shares c (chunk (src (.ag 1) c)) fullShare f).1 $$ H1
  ihave H2 := (shares c (chunk (src (.ag 2) c)) fullShare f).1 $$ H2
  icases H0 with ⟨D0, T0⟩
  icases H1 with ⟨D1, T1⟩
  icases H2 with ⟨D2, T2⟩
  isplitl [H D0 D1 D2]
  · iapply (shares c grpM qG f).1
    iapply (Entails.of_eq (group_chunks c qG f).symm)
    isplitl [H]; · iexact H
    isplitl [D0]; · iexact D0
    isplitl [D1]; · iexact D1
    iexact D2
  isplitl [T0]; · iexact T0
  isplitl [T1]; · iexact T1
  iexact T2

/-- and all of it once everything lent is back. -/
theorem group_back (c : Dev nD) (f : Buf (Elt F) ((c : Thread nD τ).loc cc0_scratch2)) :
    (iprop((pts c grpM (shareDrop qG 3) f ∗ pts c grpM (shareTok qG 3 0) f ∗ pts c grpM (shareTok qG 3 1) f ∗ pts c grpM (shareTok qG 3 2) f)
      ∗ (pts c (chunk c) (shareTok fullShare 3 0) f ∗ pts c (chunk c) (shareTok fullShare 3 1) f ∗ pts c (chunk c) (shareTok fullShare 3 2) f)
      ∗ (pts c (chunk (src (.ag 0) c)) (shareTok fullShare 3 0) f ∗ pts c (chunk (src (.ag 0) c)) (shareTok fullShare 3 1) f ∗ pts c (chunk (src (.ag 0) c)) (shareTok fullShare 3 2) f)
      ∗ (pts c (chunk (src (.ag 1) c)) (shareTok fullShare 3 0) f ∗ pts c (chunk (src (.ag 1) c)) (shareTok fullShare 3 1) f ∗ pts c (chunk (src (.ag 1) c)) (shareTok fullShare 3 2) f)
      ∗ (pts c (chunk (src (.ag 2) c)) (shareTok fullShare 3 0) f ∗ pts c (chunk (src (.ag 2) c)) (shareTok fullShare 3 1) f ∗ pts c (chunk (src (.ag 2) c)) (shareTok fullShare 3 2) f)) : sProp 𝕄)
    ⊢ iprop(∃ f, ((c : Thread nD τ).loc cc0_scratch2) ↦{fullShare} f) := by
  iintro ⟨G, T, T0, T1, T2⟩
  ihave G := (shares c grpM qG f).2 $$ G
  ihave G := (Entails.of_eq (group_chunks c qG f)) $$ G
  icases G with ⟨H, D0, D1, D2⟩
  iexists f
  iapply (Entails.of_eq ((group_chunks c fullShare f).symm.trans (pts_grp c fullShare f)))
  isplitl [H T]
  · iapply (shares c (chunk c) fullShare f).2
    isplitl [H]; · iexact H
    iexact T
  isplitl [D0 T0]
  · iapply (shares c (chunk (src (.ag 0) c)) fullShare f).2
    isplitl [D0]; · iexact D0
    iexact T0
  isplitl [D1 T1]
  · iapply (shares c (chunk (src (.ag 1) c)) fullShare f).2
    isplitl [D1]; · iexact D1
    iexact T1
  iapply (shares c (chunk (src (.ag 2) c)) fullShare f).2
  isplitl [D2]; · iexact D2
  iexact T2

omit [FloatOps F] in
/-- A window at known contents is one at some. -/
theorem forget {n : ℕ} (c : Dev nD) {s : Shape} {e : EltTy} (M : Fin n → Memref sig .tc .vmem s e) (j : Fin n) (f) : (pts c (M j) fullShare f : sProp 𝕄) ⊢ some' c M j := by
  iintro H; iexists f; iexact H

/-- A slot received along `y`, its halves together again. -/
theorem slotY_back (c : Dev nD) (j : Fin 3) (f) : (iprop(pts c (slotY j) fullShare.left f ∗ pts c (slotY j) fullShare.right f) : sProp 𝕄) ⊢ some' c slotY j :=
  (halves c (slotY j) fullShare f).2.trans (forget c slotY j f)

/-! ## Every row of the result is written -/

theorem all_rows : ∀ c d : Dev nD, d ∈ ∅ ∪ {c} ∪ {src (.ag 0) c} ∪ {src (.ag 1) c} ∪ {src (.ag 2) c} ∪ grp (src (.yg 0) c) ∪ grp (src (.yg 1) c) ∪ grp (src (.yg 2) c)
    ∪ grp (flip c) ∪ grp (yup (flip c) (((0 : Fin 3) : ℕ) + 1)) ∪ grp (yup (flip c) (((1 : Fin 3) : ℕ) + 1)) ∪ grp (yup (flip c) (((2 : Fin 3) : ℕ) + 1)) := by
  decide +kernel

end Cert.KernelIdeal.Fused

end
-- ==== Proof.Body.lean ====
/-
A device's whole program: from its windows, its tickets and its tokens to the written result, every semaphore at zero
again and every buffer its own.
-/
module

public import proofs.«01_k».proof.Proof.Whole

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Ck → ℕ)

/-- One piece of the program after another. -/
theorem seq_step {α β : Type} (c : Dev nD) (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := Entails.of_eq (wp_bind ..).symm

/-- What a device starts from: the right to wait at each of its cells, to start each of its transfers, to enter at each
of its peers, -/
abbrev rights (c : Dev nD) : sProp 𝕄 :=
  iprop(ticket c .bar ∗ allTr (fun t => ticket c (.rcv t)) ∗ allTr (fun t => sendTok t c) ∗ allPeer (fun i => barTok i c))
/-- what it hands over there, and its own windows. -/
abbrev windows (c : Dev nD) : sProp 𝕄 :=
  iprop((∃ f, pts c (chunk c) fullShare f) ∗ (allPeer fun i => barPay (peer i c) i) ∗ (some' c slotS 0 ∗ some' c slotS 1 ∗ some' c slotS 2))
/-- The windows it reads from and the one it writes. -/
abbrev inputs (c : Dev nD) : sProp 𝕄 := iprop(inP m c ∗ inR m c ∗ inG m c)

/-- Everything but the last slot lent along `x`, one wait before the end. -/
abbrev nearly (c : Dev nD) : sProp 𝕄 :=
  iprop((done c .bar ∗ allTr (fun t => done c (.rcv t))
      ∗ done c (.snd (.rs 0)) ∗ done c (.snd (.rs 1)) ∗ done c (.snd (.rs 2)) ∗ done c (.snd (.ag 0)) ∗ done c (.snd (.ag 1)) ∗ done c (.snd (.ag 2))
      ∗ done c (.snd (.yg 0)) ∗ done c (.snd (.yg 1)) ∗ done c (.snd (.yg 2)) ∗ done c (.snd (.xs 0)) ∗ done c (.snd (.xs 1)) ∗ done c (.snd (.xs 2)))
    ∗ ticket c (.snd (.xs 3)) ∗ owe c left20
    ∗ inputs m c ∗ ((Memref.whole cc0_stg3_0).view.loc (c : Thread nD τ) ↦{fullShare} outC m c)
    ∗ (∃ f, ((c : Thread nD τ).loc cc0_scratch2) ↦{fullShare} f)
    ∗ (some' c slotS 0 ∗ some' c slotS 1 ∗ some' c slotS 2) ∗ (some' c slotR 0 ∗ some' c slotR 1 ∗ some' c slotR 2)
    ∗ (some' c slotY 0 ∗ some' c slotY 1 ∗ pts c (slotY 2) fullShare.right (ygC m c))
    ∗ (some' c slotX 0 ∗ some' c slotX 1 ∗ some' c slotX 2 ∗ some' c slotX 3))

section
variable {Q : PUnit → sProp (MT nD τ sig Unit (Elt F) ℕ UU ℕ)}

theorem run27 (c : Dev nD) :
    facts m K ⊢ iprop(rights c -∗ windows c -∗ inputs m c -∗ outRows m c ∅ -∗ owe c left0 -∗ (nearly m c -∗ Q ⟨⟩)
      -∗ run c (here (k0_part27 (F := F))) Q) := by
  rw [k0_part27_eq_skeleton]
  unfold k0_part27_skel
  iintro #HF ⟨HT, ⟨R0, R1, R2, R3, R4, R5, R6, R7, R8, R9, R10, R11, R12⟩, ⟨S0, S1, S2, S3, S4, S5, S6, S7, S8, S9, S10, S11, S12⟩, ⟨B0, B1, B2, B3, B4, B5, B6⟩⟩
  iintro ⟨C, ⟨P0, P1, P2, P3, P4, P5, P6⟩, ⟨A0, A1, A2⟩⟩ ⟨I, J, G⟩ W HO Hk
  iapply (seq_step c)
  iapply (run1 m K c) $$ HF B0 P0 HO
  iintro %v2 %v5 %v8 %v9 %v12 %v31 %x %v32 %y HO
  dsimp only
  iapply (seq_step c)
  iapply (run2 m K c v2 v5 v8 v31 x v32 y) $$ HF B1 B2 P1 P2 HO
  iintro %a HO
  obtain ⟨v65, x, v66, y⟩ := a
  dsimp only
  iapply (seq_step c)
  iapply (run3 m K c v2 v5 v8 v65 x v66 y) $$ HF B3 B4 P3 P4 HO
  iintro %a HO
  obtain ⟨v99, x, v100, y⟩ := a
  dsimp only
  iapply (seq_step c)
  iapply (run4 m K c v2 v5 v8 v9 v12 v99 x v100 y) $$ HF B5 B6 P5 P6 HT HO
  dsimp only [barPay]
  iintro %a ⟨DB, HO, ⟨G0, G3⟩, ⟨G1, G4⟩, ⟨G2, G5⟩, G6, G7, G8, ⟨G9, G10, G11, G12⟩⟩
  obtain ⟨v132, v134⟩ := a
  dsimp only
  iapply (seq_step c)
  iapply (run5 m K c v2 v5 v8 v12 v132 v134) $$ HF I A0 S0 G0 HO
  iintro %a ⟨I, S0, HO⟩
  obtain ⟨v165, v167⟩ := a
  dsimp only
  iapply (seq_step c)
  iapply (run6 m K c v2 v5 v8 v12 v165 v167) $$ HF I A1 S1 G1 HO
  iintro %a ⟨I, S1, HO⟩
  obtain ⟨v198, v200⟩ := a
  dsimp only
  iapply (seq_step c)
  iapply (run7 m K c v2 v5 v8 v12 v198 v200) $$ HF I J A2 S2 G2 HO
  iintro %x ⟨I, J, S2, HO⟩
  dsimp only
  iapply (seq_step c)
  iapply (run8 m K c v2 v5 v132 v165 x) $$ HF R0 R1 HO
  iintro ⟨R0, R1, U0, U1, HO⟩
  iapply (seq_step c)
  iapply (run9 m K c v2 v5 v8 v198) $$ HF R2 G C HO
  iintro ⟨R2, U2, G, C, HO⟩
  dsimp only
  iapply (seq_step c)
  iapply (run10 m K c v2 v5 v8 v12 ∅) $$ HF C W S3 G3 HO
  iintro %a ⟨C, C1, C2, W, S3, HO⟩
  obtain ⟨v317, v334, v335, x⟩ := a
  dsimp only
  iapply (seq_step c)
  iapply (run11 m K c v2 v5 v8 v334 v335 x) $$ HF C1 S4 G4 HO
  iintro %a ⟨S4, HO⟩
  obtain ⟨v342, v367, v370⟩ := a
  dsimp only
  iapply (seq_step c)
  iapply (run12 m K c v2 v5 v8 v317 v367 v370) $$ HF C2 S5 G5 R3 HO
  iintro %v403 ⟨S5, R3, HO, E0⟩
  iapply (seq_step c)
  iapply (run13 m K c v2 v5 v8 v12 v342 v403 _) $$ HF E0 W R4 HO
  iintro ⟨E0, E1, W, R4, HO⟩
  iapply (seq_step c)
  iapply (run14 m K c v2 v5 v8 v12 v367 _) $$ HF W R5 HO
  iintro %a ⟨E2, W, R5, HO⟩
  obtain ⟨v472, v474⟩ := a
  dsimp only
  ihave HG := (group_keep c (grpC m c)) $$ [C E0 E1 E2]
  · isplitl [C]; · iexact C
    isplitl [E0]; · iexact E0
    isplitl [E1]; · iexact E1
    iexact E2
  icases HG with ⟨⟨N, N0, N1, N2⟩, E0, E1, E2⟩
  iapply (seq_step c)
  iapply (run15 m K c v2 v5 v8 v472 v474) $$ HF N0 S6 G6 HO
  iintro %a ⟨S6, HO⟩
  obtain ⟨v482, v505, v507, v508⟩ := a
  dsimp only
  iapply (seq_step c)
  iapply (run16 m K c v2 v5 v8 v9 v507 v508) $$ HF N1 N2 S7 S8 G7 G8 HO
  iintro %a ⟨S7, S8, HO⟩
  obtain ⟨v528, v542⟩ := a
  dsimp only
  iapply (seq_step c)
  iapply (run17 m K c v2 v5 v8 v9 v482 v542) $$ HF N S9 G9 R6 HO
  iintro ⟨S9, R6, HO, Y0⟩
  iapply (seq_step c)
  iapply (run18 m K c v2 v5 v8 v505 _) $$ HF Y0 S10 G10 W R7 HO
  iintro ⟨Y0, S10, W, R7, HO, Y1⟩
  iapply (seq_step c)
  iapply (run19 m K c v2 v5 v8 v9 _) $$ HF Y1 S11 G11 W HO
  iintro ⟨Y1, S11, W, HO⟩
  iapply (seq_step c)
  iapply (run20 m K c v2 v5 v8 v9 v528) $$ HF R8 S12 G12 HO
  iintro %a ⟨R8, Y2, S12, HO⟩
  obtain ⟨v668, v669, v670, v671⟩ := a
  dsimp only
  iapply (seq_step c)
  iapply (run21 m K c v2 v5 v8 v9 v668 v669 v670 v671 _) $$ HF Y2 W R9 HO
  iintro ⟨Y2, W, R9, X0, HO⟩
  iapply (seq_step c)
  iapply (run22 m K c v5 v8 v9 _) $$ HF W R10 HO
  iintro ⟨X1, W, R10, HO⟩
  iapply (seq_step c)
  iapply (run23 m K c v5 v8 v9 _) $$ HF W R11 HO
  iintro ⟨X2, W, R11, HO⟩
  iapply (seq_step c)
  iapply (run24 m K c v5 v8 v9 _) $$ HF W R12 HO
  iintro ⟨X3, W, R12, HO⟩
  ihave W := (outRows_all m c (all_rows c)) $$ W
  iapply (seq_step c)
  iapply (run25 m K c) $$ HF S0 S1 S2 S3 HO
  iintro ⟨⟨S0, S1, S2, S3⟩, ⟨A0, A1, A2⟩, C0, HO⟩
  iapply (seq_step c)
  iapply (run26 m K c) $$ HF S4 S5 S6 S7 S8 S9 HO
  iintro ⟨⟨S4, S5, S6, S7, S8, S9⟩, ⟨C1, C2⟩, N, HO⟩
  ihave HG := (group_back c (grpC m c)) $$ [N C0 C1 C2 E0 E1 E2]
  · isplitl [N]; · iexact N
    isplitl [C0 C1 C2]
    · isplitl [C0]; · iexact C0
      isplitl [C1]; · iexact C1
      iexact C2
    isplitl [E0]; · iexact E0
    isplitl [E1]; · iexact E1
    iexact E2
  simp only [Prog.lift, Prog.bind_op, Prog.bind_ret, Prog.pure_eq_ret]
  iapply (back_xs m K 0 1 rfl c (sem_xsS 1 _) (credit_Y 0)) $$ HF S10 HO
  iintro ⟨S10, HO, L0⟩
  iapply (back_xs m K 1 2 rfl c (sem_xsS 2 _) (credit_Y 1)) $$ HF S11 HO
  iintro ⟨S11, HO, L1⟩
  iapply (ret_step c _ Q)
  iapply Hk
  isplitl [DB R0 R1 R2 R3 R4 R5 R6 R7 R8 R9 R10 R11 R12 S0 S1 S2 S3 S4 S5 S6 S7 S8 S9 S10 S11]
  · isplitl [DB]; · iexact DB
    isplitl [R0 R1 R2 R3 R4 R5 R6 R7 R8 R9 R10 R11 R12]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      iexact R12
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [S12]; · iexact S12
  isplitl [HO]; · iexact HO
  isplitl [I J G]
  · isplitl [I]; · iexact I
    isplitl [J]; · iexact J
    iexact G
  isplitl [W]; · iexact W
  isplitl [HG]; · iexact HG
  isplitl [A0 A1 A2]
  · isplitl [A0]; · iapply (forget c slotS 0 _); iexact A0
    isplitl [A1]; · iapply (forget c slotS 1 _); iexact A1
    iapply (forget c slotS 2 _); iexact A2
  isplitl [U0 U1 U2]
  · isplitl [U0]; · iapply (forget c slotR 0 _); iexact U0
    isplitl [U1]; · iapply (forget c slotR 1 _); iexact U1
    iapply (forget c slotR 2 _); iexact U2
  isplitl [Y0 Y1 Y2 L0 L1]
  · isplitl [Y0 L0]
    · iapply (slotY_back c 0 (ygC m c))
      isplitl [L0]; · iexact L0
      iexact Y0
    isplitl [Y1 L1]
    · iapply (slotY_back c 1 (ygC m c))
      isplitl [L1]; · iexact L1
      iexact Y1
    iexact Y2
  isplitl [X0]; · iapply (forget c slotX 0 _); iexact X0
  isplitl [X1]; · iapply (forget c slotX 1 _); iexact X1
  isplitl [X2]; · iapply (forget c slotX 2 _); iexact X2
  iapply (forget c slotX 3 _); iexact X3

/-- A buffer held at some contents. -/
abbrev someOf (c : Dev nD) (b : Ref sig .tc) : sProp 𝕄 := iprop(∃ f, ((c : Thread nD τ).loc b) ↦{fullShare} f)

/-- The program whole. -/
theorem run_body (c : Dev nD) :
    facts m K ⊢ iprop(rights c -∗ inputs m c -∗ outRows m c ∅
      -∗ (someOf c cc0_scratch0 ∗ someOf c cc0_scratch1 ∗ someOf c cc0_scratch2 ∗ someOf c cc0_scratch3 ∗ someOf c cc0_scratch4)
      -∗ owe c left0
      -∗ (((done c .bar ∗ allTr (fun t => done c (.snd t)) ∗ allTr (fun t => done c (.rcv t))) ∗ owe c left20
            ∗ inputs m c ∗ ((Memref.whole cc0_stg3_0).view.loc (c : Thread nD τ) ↦{fullShare} outC m c)
            ∗ (someOf c cc0_scratch0 ∗ someOf c cc0_scratch1 ∗ someOf c cc0_scratch2 ∗ someOf c cc0_scratch3 ∗ someOf c cc0_scratch4)) -∗ Q ⟨⟩)
      -∗ run c (here (cc0_body (F := F))) Q) := by
  rw [cc0_body_eq_skeleton]
  unfold cc0_body_skel
  iintro #HF Hr Hin W ⟨Z0, Z1, Z2, Z3, Z4⟩ HO Hk
  icases Z0 with ⟨%f0, Z0⟩
  icases Z1 with ⟨%f1, Z1⟩
  icases Z3 with ⟨%f3, Z3⟩
  icases Z4 with ⟨%f4, Z4⟩
  ihave Hw := (hand c) $$ [Z1 Z2 Z3 Z4]
  · isplitl [Z1]; · iexists f1; iexact Z1
    isplitl [Z2]; · iexact Z2
    isplitl [Z3]; · iexists f3; iexact Z3
    iexists f4; iexact Z4
  icases Hw with ⟨C, P⟩
  ihave A := (split_S c) $$ [Z0]
  · iexists f0; iexact Z0
  iapply (seq_step c)
  iapply (run27 m K c) $$ HF Hr [C P A] Hin W HO
  · isplitl [C]; · iexact C
    isplitl [P]; · iexact P
    iexact A
  iintro ⟨⟨DB, R, S0, S1, S2, S3, S4, S5, S6, S7, S8, S9, S10, S11⟩, S12, HO, Hin, W, Z2, A, U, ⟨Y0, Y1, Y2⟩, X⟩
  simp only [Prog.lift, Prog.bind_op, Prog.bind_ret, Prog.pure_eq_ret]
  iapply (back_xs m K 2 3 rfl c (sem_xsS 3 _) (credit_Y 2)) $$ HF S12 HO
  iintro ⟨S12, HO, L2⟩
  iapply (ret_step c _ Q)
  iapply Hk
  isplitl [DB R S0 S1 S2 S3 S4 S5 S6 S7 S8 S9 S10 S11 S12]
  · isplitl [DB]; · iexact DB
    isplitr [R]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    iexact R
  isplitl [HO]; · iexact HO
  isplitl [Hin]; · iexact Hin
  isplitl [W]; · iexact W
  isplitl [A]; · iapply (join_S c f0); iexact A
  isplitl [U]; · iapply (join_R c f1); iexact U
  isplitl [Z2]; · iexact Z2
  isplitl [Y0 Y1 Y2 L2]
  · iapply (join_Y c f3)
    isplitl [Y0]; · iexact Y0
    isplitl [Y1]; · iexact Y1
    iapply (slotY_back c 2 (ygC m c))
    isplitl [L2]; · iexact L2
    iexact Y2
  iapply (join_X c f4); iexact X
end

end Cert.KernelIdeal.Fused

end
-- ==== Proof.Deal.lean ====
/-
The launch, first half: each device's cells, the tokens of their duties and who is dealt which, and the credits that
stand for what the devices owe each other when they start.
-/
module

public import proofs.«01_k».proof.Proof.Body
public import Idealize.ShloMosaic.Lib.Pipeline.BigSepL

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## Over the kinds of cell -/

theorem trs_univ : (Finset.univ : Finset Tr) = trs.toFinset := by decide
omit [FloatOps F] in
theorem overCk (Φ : Ck → sProp 𝕄) : bigSep Finset.univ Φ
    = iprop(Φ .bar ∗ (bigSep Finset.univ fun t => Φ (.snd t)) ∗ bigSep Finset.univ fun t => Φ (.rcv t)) := by
  rw [bigSep_univ_eq_bigSepL cks (by decide) cks_nodup, bigSep_univ_eq_bigSepL trs trs_univ trs_nodup, bigSep_univ_eq_bigSepL trs trs_univ trs_nodup]
  unfold cks
  rw [bigSepL_cons, bigSepL_append, bigSepL_map, bigSepL_map]
  rfl

/-! ## The semaphores the kernel has of its own -/

set_option backward.proofsInPublic true in
/-- The kernel's own semaphores: all but those of the windows. -/
abbrev osem : Fin 26 → SemLoc sig := fun i => .dma (⟨i.val + 4, by omega⟩ : Fin 30)
theorem ownSemFacts : Pipeline.OwnSemFacts cfg0.spec osem := by decide

set_option backward.proofsInPublic true in
def sendIx : Tr → Fin 26
  | .rs k => ⟨k.val, by omega⟩ | .ag k => ⟨6 + k.val, by omega⟩ | .yg k => ⟨12 + k.val, by omega⟩ | .xs k => ⟨18 + k.val, by omega⟩
set_option backward.proofsInPublic true in
def recvIx : Tr → Fin 26
  | .rs k => ⟨3 + k.val, by omega⟩ | .ag k => ⟨9 + k.val, by omega⟩ | .yg k => ⟨15 + k.val, by omega⟩ | .xs k => ⟨22 + k.val, by omega⟩
theorem osem_send : ∀ t : Tr, osem (sendIx t) = csem (.snd t) := by decide
theorem osem_recv : ∀ t : Tr, osem (recvIx t) = csem (.rcv t) := by decide

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun t => done c (.snd t)) ∗ bigSep Finset.univ fun t => done c (.rcv t)) := by
  rw [Pipeline.ownSems0_eq_of_list c osem (trs.map sendIx ++ trs.map recvIx) (by decide) (by decide), bigSepL_append, bigSepL_map, bigSepL_map,
    bigSep_univ_eq_bigSepL trs trs_univ trs_nodup, bigSep_univ_eq_bigSepL trs trs_univ trs_nodup]
  simp only [osem_send, osem_recv]
omit [FloatOps F] in
theorem unscopedSems0_eq (c : Dev nD) : (unscopedSems0 c : sProp 𝕄) = done c .bar := by
  unfold unscopedSems0; rw [bigSep_eq_bigSepL_of_eq [SemLoc.reg barS] (by decide) (by decide)]; rfl

/-! ## Cells and tokens -/

theorem kcell_injective : Function.Injective fun x : Dev nD × Ck => kcell x.1 x.2 :=
  fun _ _ h => Prod.ext (kcell_inj h).1 (kcell_inj h).2
def allCells : Finset (GSem nD τ sig) := Finset.univ.map ⟨_, kcell_injective⟩

/-- A device's duties: seven at its barrier cell, one at each transfer's cells. -/
abbrev Duty : Type := Fin 7 ⊕ Tr ⊕ Tr
def dutyOf : Duty → Ck × Fin 7
  | .inl i => (.bar, i)
  | .inr (.inl t) => (.snd t, 0)
  | .inr (.inr t) => (.rcv t, 0)
theorem dutyOf_injective : Function.Injective dutyOf := by decide +kernel
def tokOf (x : Dev nD × Duty) : GSem nD τ sig × ℕ × Fin 7 := (kcell x.1 (dutyOf x.2).1, 0, (dutyOf x.2).2)
theorem tokOf_injective : Function.Injective tokOf := fun x y h =>
  have h1 := kcell_inj (congrArg Prod.fst h)
  Prod.ext h1.1 (dutyOf_injective (Prod.ext h1.2 (congrArg (fun z : GSem nD τ sig × ℕ × Fin 7 => z.2.2) h)))
def allToks : Finset (GSem nD τ sig × ℕ × Fin 7) := Finset.univ.map ⟨tokOf, tokOf_injective⟩

/-- The start of the protocol's ghost state. -/
def u₀ : UU := (initOf (Pipeline.cells cfgs cellOf_inj) (Pipeline.launchToks cfgs cellOf_inj), initOf allCells allToks)

/-- The tokens of a device's own cells, -/
def toks (c : Dev nD) : sProp 𝕄 :=
  iprop((bigSep Finset.univ fun i : Fin 7 => dutyTok ER (kcell c .bar) 0 i)
    ∗ (bigSep Finset.univ fun t : Tr => dutyTok ER (kcell c (.snd t)) 0 (0 : Fin 7)) ∗ bigSep Finset.univ fun t : Tr => dutyTok ER (kcell c (.rcv t)) 0 (0 : Fin 7))
/-- and those of the duties it performs. -/
def payToks (c : Dev nD) : sProp 𝕄 :=
  iprop((bigSep Finset.univ fun i : Fin 7 => barTok i c)
    ∗ (bigSep Finset.univ fun t : Tr => dutyTok ER (kcell c (.snd t)) 0 (0 : Fin 7)) ∗ bigSep Finset.univ fun t : Tr => dutyTok ER (kcell (tgt t c) (.rcv t)) 0 (0 : Fin 7))

/-- What a device is dealt at first, -/
def G (c : Dev nD) : sProp 𝕄 :=
  iprop((bigSep Finset.univ fun k : Ck => roundState ER (sched m) (kcell c k) 0)
    ∗ (bigSep Finset.univ fun k : Ck => iprop(atPos ER (kcell c k) 0 ∅ 0 ∗ reached ER (kcell c k) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
/-- Every token goes to the device that performs its duty. -/
theorem toks_dealt : (bigSep Finset.univ fun c : Dev nD => (toks c : sProp 𝕄)) ⊢ bigSep Finset.univ fun c : Dev nD => payToks c := by
  have hB : (bigSep Finset.univ fun c : Dev nD => bigSep Finset.univ fun i : Fin 7 => (dutyTok ER (kcell c .bar) 0 i : sProp 𝕄))
      = bigSep Finset.univ fun c : Dev nD => bigSep Finset.univ fun i : Fin 7 => barTok i c := by
    rw [BI.bigSep_univ_comm, BI.bigSep_univ_comm (fun (c : Dev nD) (i : Fin 7) => (barTok i c : sProp 𝕄))]
    exact bigSep_congr fun i _ => bigSep_univ_equiv (peer i) (fun c : Dev nD => (dutyTok ER (kcell c .bar) 0 i : sProp 𝕄))
  have hR : (bigSep Finset.univ fun c : Dev nD => bigSep Finset.univ fun t : Tr => (dutyTok ER (kcell c (.rcv t)) 0 (0 : Fin 7) : sProp 𝕄))
      = bigSep Finset.univ fun c : Dev nD => bigSep Finset.univ fun t : Tr => dutyTok ER (kcell (tgt t c) (.rcv t)) 0 (0 : Fin 7) := by
    rw [BI.bigSep_univ_comm, BI.bigSep_univ_comm (fun (c : Dev nD) (t : Tr) => (dutyTok ER (kcell (tgt t c) (.rcv t)) 0 (0 : Fin 7) : sProp 𝕄))]
    exact bigSep_congr fun t _ => bigSep_univ_equiv (from' t).symm (fun c : Dev nD => (dutyTok ER (kcell c (.rcv t)) 0 (0 : Fin 7) : sProp 𝕄))
  unfold toks payToks
  rw [bigSep_sep', bigSep_sep', bigSep_sep', bigSep_sep', hB, hR]

/-! ## The credits -/

/-- What each device owes as it starts. -/
def O₀ (c : Dev nD) : CellTallies nD τ sig Unit := owedL c left0

/-- Where a payment goes, as a permutation of the devices. -/
def pperm : Pay → Dev nD ≃ Dev nD
  | .bar i => peer i
  | .cp t => (from' t).symm
theorem pdev_eq (d : Dev nD) (p : Pay) : pdev d p = pperm p d := by cases p <;> rfl

theorem owed_total (l : List Pay) (c : Dev nD) (k : Ck) :
    ∑ d : Dev nD, owedL d l (kcell c k) () = (l.map fun p => if pkind p = k then pamt p else 0).sum := by
  induction l with
  | nil => exact Finset.sum_const_zero
  | cons p l ih =>
    have h (d : Dev nD) : owedL d (p :: l) (kcell c k) () = owedL d l (kcell c k) () + if d = (pperm p).symm c then (if pkind p = k then pamt p else 0) else 0 := by
      show (owedL d l + tallyAt (pcell d p) () (pamt p)) (kcell c k) () = _
      rw [Pi.add_apply, Finsupp.add_apply, tallyAt_apply]
      refine congrArg (owedL d l (kcell c k) () + ·) ?_
      by_cases h1 : d = (pperm p).symm c
      · have e : pdev d p = c := by rw [pdev_eq, h1, Equiv.apply_symm_apply]
        rw [if_pos h1]
        by_cases h2 : pkind p = k
        · rw [if_pos h2, if_pos ⟨by rw [← e, ← h2], rfl⟩]
        · rw [if_neg h2, if_neg fun h => h2 (kcell_inj h.1).2.symm]
      · rw [if_neg h1, if_neg fun h => h1 (by rw [(kcell_inj h.1).1, pdev_eq, Equiv.symm_apply_apply])]
    rw [Finset.sum_congr rfl fun d _ => h d, Finset.sum_add_distrib, ih, Finset.sum_ite_eq' Finset.univ ((pperm p).symm c), if_pos (Finset.mem_univ _),
      List.map_cons, List.sum_cons, Nat.add_comm]

/-- What the devices together owe a cell. -/
def kowed : Ck → ℕ
  | .snd _ => 0
  | k => kamt k
theorem total_k : ∀ k : Ck, ((left0.map fun p => if pkind p = k then pamt p else 0).sum) = kowed k := by decide +kernel

theorem launch_k (c : Dev nD) (k : Ck) :
    tallyOn (kcell c k) (launchCredit (Pipeline.owing O₀) 0 (kcell c k)) = (tallyAt (kcell c k) () (kowed k) : CellTallies nD τ sig Unit) := by
  unfold tallyAt; refine congrArg _ (Finsupp.ext fun u => ?_); cases u
  rw [Pipeline.launchCredit_owing, Finsupp.single_eq_same]
  exact (owed_total left0 c k).trans (total_k k)

omit [FloatOps F] in
theorem creds (c : Dev nD) : (Pipeline.launchCred O₀ c : sProp 𝕄)
    ⊢ iprop(cred (tallyAt (kcell c .bar) () (kamt .bar)) ∗ bigSep Finset.univ fun t => cred (tallyAt (kcell c (.rcv t)) () (kamt (.rcv t)))) := by
  have h : (Pipeline.launchCred O₀ c : sProp 𝕄) ⊢ bigSep Finset.univ fun k : Ck => cred (tallyAt (kcell c k) () (kowed k)) := by
    unfold Pipeline.launchCred
    have e : (bigSep (Finset.univ.map ⟨csem, fun _ _ => csem_inj⟩) fun sm : SemLoc sig => (cred (tallyOn ((c.tc : Thread nD τ), sm) (launchCredit (Pipeline.owing O₀) 0 ((c.tc : Thread nD τ), sm))) : sProp 𝕄))
        = bigSep Finset.univ fun k : Ck => cred (tallyAt (kcell c k) () (kowed k)) := by
      rw [bigSep_map]
      exact bigSep_congr fun k _ => congrArg cred (launch_k c k)
    rw [← e]
    exact BI.bigSep_subset (Finset.subset_univ _)
  rw [overCk] at h
  refine h.trans ?_
  iintro ⟨HB, -, HR⟩
  isplitl [HB]; · iexact HB
  iexact HR

end Cert.KernelIdeal.Fused

end
-- ==== Proof.Launch.lean ====
/-
The launch, second half: the protocol starts on every device at once, each device's program runs under it, and what the
run of the whole program ends in.
-/
module

public import proofs.«01_k».proof.Proof.Deal
public import proofs.«01_k».proof.Proof.Gen.KernelIdeal.Frame
public import Idealize.ShloMosaic.Lib.Pipeline.CollectiveSegs

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (ρ : Dev nD → PrngReg)

/-- The machine as it starts. -/
def s₀ : MemSt nD τ sig (Elt F) := ⟨m, fun _ => 0, ρ⟩

/-! ## The protocol starts -/

/-- All cells' invariants and first rounds. -/
def records (K : Dev nD × Ck → ℕ) : sProp 𝕄 :=
  iprop((bigSep Finset.univ fun x : Dev nD × Ck => cellInv ER (sched m) (K x) (kcell x.1 x.2))
    ∗ bigSep Finset.univ fun x : Dev nD × Ck => reached ER (kcell x.1 x.2) 0)
instance records_persistent (K : Dev nD × Ck → ℕ) : BI.Persistent (records m K) := by unfold records; infer_instance
/-- What is one device's own. -/
def own' (c : Dev nD) : sProp 𝕄 := iprop((bigSep Finset.univ fun k : Ck => atPos ER (kcell c k) 0 ∅ 0) ∗ payToks c)
/-- What a device has of the protocol. -/
def G' (c : Dev nD) : sProp 𝕄 := iprop(∃ K, records m K ∗ own' c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (sched m) κ (kcell c k)))
          ∗ (bigSep Finset.univ fun k : Ck => iprop(atPos ER (kcell c k) 0 ∅ 0 ∗ reached ER (kcell c k) 0)) ∗ toks c) := by
  rw [ownSems0_eq, unscopedSems0_eq]
  unfold G
  iintro ⟨⟨HS, HR⟩, HB, Hst, Hat, Htok⟩
  ihave Hv := (Entails.of_eq (overCk (F := F) fun k => done c k).symm) $$ [HB HS HR]
  · isplitl [HB]; · iexact HB
    isplitl [HS]; · iexact HS
    iexact HR
  imod (show iprop((bigSep Finset.univ fun k : Ck => done c k) ∗ bigSep Finset.univ fun k : Ck => roundState ER (sched m) (kcell c k) 0)
      ⊢ (|={Set.univ}=> bigSep Finset.univ fun k => iprop(∃ κ : ℕ, cellInv ER (sched m) κ (kcell c k)) : sProp 𝕄) from by
        rw [← bigSep_sep']
        exact (bigSep_mono fun k _ => (Rounds.body_intro ER (sched m) (kcell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem own_intro (K : Dev nD × Ck → ℕ) (c : Dev nD) : iprop(records m K ∗ own' c) ⊢ G' m c := by
  unfold G'
  iintro H
  iexists K
  iexact H

omit [FloatOps F] in
theorem spread_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (sched m) κ (kcell c k)))
          ∗ (bigSep Finset.univ fun k : Ck => iprop(atPos ER (kcell c k) 0 ∅ 0 ∗ reached ER (kcell c k) 0)) ∗ toks c) : sProp 𝕄)
      ⊢ bigSep Finset.univ (G' m) := by
  rw [bigSep_sep', bigSep_sep', ← bigSep_univ_prod (fun x : Dev nD × Ck => iprop(∃ κ : ℕ, cellInv ER (sched m) κ (kcell x.1 x.2))),
    bigSep_congr (s := Finset.univ) (fun (c : Dev nD) _ => bigSep_sep' Finset.univ (fun k : Ck => (atPos ER (kcell c k) 0 ∅ 0 : sProp 𝕄)) (fun k => reached ER (kcell c k) 0)),
    bigSep_sep', ← bigSep_univ_prod (fun x : Dev nD × Ck => (reached ER (kcell x.1 x.2) 0 : sProp 𝕄))]
  iintro ⟨HI, ⟨Hat, #HR⟩, Htok⟩
  ihave HK := (BI.bigSep_exists_pi Finset.univ (fun (x : Dev nD × Ck) (κ : ℕ) => (cellInv ER (sched m) κ (kcell x.1 x.2) : sProp 𝕄))) $$ HI
  icases HK with ⟨%K, #HI⟩
  ihave Htk := (toks_dealt (F := F)) $$ Htok
  iapply (spread_persistent (R := records m K) fun c _ => own_intro m K c)
  isplitr
  · unfold records; isplitl; · iexact HI
    iexact HR
  · unfold own'
    iapply (Entails.of_eq (bigSep_sep' Finset.univ (fun c : Dev nD => bigSep Finset.univ fun k : Ck => (atPos ER (kcell c k) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- A device at its start. -/
def start (c : Dev nD) : sProp 𝕄 :=
  iprop(G' m c ∗ (cred (tallyAt (kcell c .bar) () (kamt .bar)) ∗ bigSep Finset.univ fun t => cred (tallyAt (kcell c (.rcv t)) () (kamt (.rcv t)))) ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With it a device has the facts of the protocol and every right of its program. -/
theorem start_rights (c : Dev nD) : start m c ⊢ iprop(∃ K, facts m K ∗ rights c) := by
  have hT : (iprop((bigSep Finset.univ fun t => atPos ER (kcell c (.rcv t)) 0 ∅ 0) ∗ bigSep Finset.univ fun t => cred (tallyAt (kcell c (.rcv t)) () (kamt (.rcv t)))) : sProp 𝕄)
      = allTr fun t => ticket c (.rcv t) := by rw [← allTr_eq, ← bigSep_sep']; rfl
  have hS : (iprop((bigSep Finset.univ fun t => atPos ER (kcell c (.snd t)) 0 ∅ 0) ∗ (bigSep Finset.univ fun t : Tr => dutyTok ER (kcell c (.snd t)) 0 (0 : Fin 7))
        ∗ bigSep Finset.univ fun t : Tr => dutyTok ER (kcell (tgt t c) (.rcv t)) 0 (0 : Fin 7)) : sProp 𝕄)
      = allTr fun t => sendTok t c := by rw [← allTr_eq, ← bigSep_sep', ← bigSep_sep']; rfl
  unfold start G' own' payToks
  rw [overCk, allPeer_eq]
  iintro ⟨⟨%K, HR, ⟨AB, AS, AR⟩, TB, TS, TR⟩, ⟨CB, CR⟩, HL⟩
  iexists K
  isplitl [HR HL]
  · unfold records facts
    icases HR with ⟨H1, H2⟩
    isplitl [H1]; · iexact H1
    isplitl [H2]; · iexact H2
    iexact HL
  isplitl [AB CB]
  · unfold ticket
    isplitl [AB]; · iexact AB
    iexact CB
  isplitl [AR CR]
  · iapply (Entails.of_eq hT)
    isplitl [AR]; · iexact AR
    iexact CR
  isplitl [AS TS TR]
  · iapply (Entails.of_eq hS)
    isplitl [AS]; · iexact AS
    isplitl [TS]; · iexact TS
    iexact TR
  iexact TB

/-! ## The launch's data -/

abbrev scratch (c : Dev nD) : sProp 𝕄 :=
  iprop(someOf c cc0_scratch0 ∗ someOf c cc0_scratch1 ∗ someOf c cc0_scratch2 ∗ someOf c cc0_scratch3 ∗ someOf c cc0_scratch4)
abbrev closed (c : Dev nD) : sProp 𝕄 := iprop(done c .bar ∗ allTr (fun t => done c (.snd t)) ∗ allTr (fun t => done c (.rcv t)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m c
    | ⟨1, _⟩ => rstg m c
    | ⟨2, _⟩ => gstg m c
    | ⟨3, _⟩ => outC m c
  Φ t := match t with
    | ⟨0, _⟩ => iprop(start m c ∗ scratch c)
    | ⟨_ + 1, _⟩ => iprop(closed c ∗ scratch c)
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged window at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop((start m c ∗ scratch c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
set_option maxRecDepth 4000 in
def bodyPost (c : Dev nD) : sProp 𝕄 :=
  iprop((closed c ∗ scratch c) ∗ (dats m ρ 0 c).owesAt () t0_0.succ
    ∗ stg c cc0_stg0_0 (pstg m c) ∗ stg c cc0_stg1_0 (rstg m c) ∗ stg c cc0_stg2_0 (gstg m c) ∗ stg c cc0_stg3_0 (outC m c))

set_option maxRecDepth 4000 in
theorem sound_body (c : Dev nD) : bodyPre m ρ c ⊢ run c (here (cc0_body (F := F))) (fun _ => bodyPost m ρ c) := by
  unfold bodyPre bodyPost Dat.owesAt Pipeline.owesWithin
  rw [show (dats m ρ 0 c).owed t0_0.castSucc = owedL c left0 from rfl, show (dats m ρ 0 c).owed t0_0.succ = owedL c left20 from rfl]
  iintro ⟨⟨Hs, Hscr⟩, ⟨%W, %hW, HO⟩, ⟨%d0, %f0, %h0, H0⟩, ⟨%d1, %f1, %h1, H1⟩, ⟨%d2, %f2, %h2, H2⟩, ⟨%d3, %f3, %h3, H3⟩⟩
  obtain rfl : f0 = pstg m c := h0
  obtain rfl : f1 = rstg m c := h1
  obtain rfl : f2 = gstg m c := h2
  ihave Hs := (start_rights m c) $$ Hs
  icases Hs with ⟨%K, #HF, Hr⟩
  iapply (run_body m K c) $$ HF Hr [H0 H1 H2] [H3] Hscr [HO]
  · isplitl [H0]; · iexact H0
    isplitl [H1]; · iexact H1
    iexact H2
  · unfold outRows
    iexists f3
    isplitr; · ipureintro; exact fun i hi => absurd hi (Finset.notMem_empty _)
    iexact H3
  · unfold owe; iexists W; iexact HO
  unfold owe
  iintro ⟨HC, ⟨%W', HO⟩, ⟨H0, H1, H2⟩, H3, Hscr⟩
  isplitl [HC Hscr]
  · isplitl [HC]; · iexact HC
    iexact Hscr
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 100000 in
/-- What the region asks of the body, at its one step. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (here (cc0_body (F := F))) (fun _ => bodyPost m ρ c)
  exact sound_body m ρ c

/-! ## The run -/

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scratch c) from rfl, scopedRest0_eq, ownSems0_eq, unscopedSems0_eq, allTr_eq, allTr_eq]
  iintro ⟨⟨HB, HS⟩, Hr⟩
  isplitl [HB]; · iexact HB
  isplitl [HS]; · iexact HS
  iexact Hr

theorem wait_stage (c : Dev nD) (q : DmaSem sig) (hq : kindOf (.dma q) = none) (l : List Pay) (hl : ∀ p ∈ l, 0 < klev (pkind p)) :
    (levAts L lv : sProp 𝕄) ⊢ MayWait (c : Thread nD τ) (.dma q) () (owedL c l) :=
  mayWait c (.dma q) l 0 (by show (kindOf (.dma q)).elim 0 klev = 0; rw [hq]; rfl) hl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact wait_stage c _ (by fin_cases w <;> fin_cases s <;> decide) left0 (by decide)
    · exact wait_stage c _ (by fin_cases w <;> fin_cases s <;> decide) left20 (by decide)

def finalA (c : Dev nD) (w : Fin cfg0.W) : Buf (Elt F) ((cfg0.win w).arr.view.loc (c : Thread nD τ)) := (dats m ρ 0 c).arrAt w cfg0.N

set_option maxRecDepth 8000 in
/-- From any memory with every semaphore at zero, every execution of the program on the 32 devices ends with each window's
array at its final contents and every semaphore at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arrays read end as they started. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The result array ends at the computed contents. -/
theorem finalA_out (c : Dev nD) : finalA m ρ c (3 : Fin 4) = outC m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho : (win0_3.blk (0 : Fin 1)).view.read (Elt F) (finalA m ρ c (3 : Fin 4)) = outC m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  exact (hr _).symm.trans ho

end Cert.KernelIdeal.Fused

end
-- ==== Proof.Rows.lean ====
/-
Over the extended reals: what the kernel's arithmetic and the reference's compute of one row. Both are the row divided
by its root mean square and scaled.
-/
module

public import proofs.«01_k».proof.Proof.Gen.KernelIdeal.Skeleton
public import proofs.«01_k».proof.Proof.Gen.ReferenceIdeal.Run
public import Idealize.ShloMosaic.Lib.Pointwise

@[expose] public section

noncomputable section

namespace Cert.KernelIdeal.Fused

open Idealize.ShloMosaic Idealize.ShloMosaic.TcCoe

/-- A row `y` divided by its root mean square and scaled by `g`. -/
def rowNorm (y g : Fin 1024 → EReal) (j : Fin 1024) : EReal :=
  Ideal.div (y j) (Ideal.sqrt (Ideal.div (∑ k, y k * y k) (Ideal.ofBits .f32 0x44800000#32) + Ideal.ofBits .f32 0x358637BD#32)) * g j

section Kernel
open Cert.KernelIdeal Cert.KernelIdeal.Gen

theorem pay6_apply (a : FVec Ideal S32x1024 .f32) (b : Vec Ideal S1x32x1024 .bf16) (g : Vec Ideal S1024 .bf16) (r : Fin 32) (j : Fin 1024) :
    k0_pay6 a b g (ix2 r j) = rowNorm (fun j => a (ix2 r j) + b (ix3 0 r j)) (fun j => g (ix1 j)) j := by
  unfold k0_pay6 rowNorm
  pointwise
theorem pay5_apply (a : FVec Ideal S32x1024 .bf16) (b c : Vec Ideal S1x32x1024 .bf16) (r : Fin 32) (j : Fin 1024) :
    k0_pay5 a b c (ix2 r j) = a (ix2 r j) + b (ix3 0 r j) + c (ix3 0 r j) := by
  unfold k0_pay5
  pointwise
theorem pay4_apply (a : Vec Ideal S1x32x1024 .bf16) (b : Vec Ideal S32x1024 .bf16) (r : Fin 32) (j : Fin 1024) :
    k0_pay4 a b (ix2 r j) = a (ix3 0 r j) + b (ix2 r j) := by
  unfold k0_pay4
  pointwise
/-- Two reshapes, there and back. -/
theorem pay1_eq (a : Vec Ideal S1x32x1024 .bf16) : k0_pay1 a = a := by
  unfold k0_pay1; exact shapeCast_shapeCast a _ _
/-- The rounding for the transfers is the identity here. -/
theorem pay7_eq (a : FVec Ideal S32x1024 .f32) (b : Vec Ideal S1x32x1024 .bf16) (g : Vec Ideal S1024 .bf16) : k0_pay7 a b g = k0_pay6 a b g := by
  unfold k0_pay7; exact shapeCast_self (k0_pay6 a b g) _
end Kernel

section Reference
open Cert.ReferenceIdeal Cert.ReferenceIdeal.Gen

variable (P : (⟨S4x1024x1024, .bf16⟩ : BufTy).Contents (Elt Ideal)) (R : (⟨S1024x1024, .bf16⟩ : BufTy).Contents (Elt Ideal))
  (G : (⟨S1024, .bf16⟩ : BufTy).Contents (Elt Ideal))

/-- The reference's sum of the partial sums and the residual. -/
def refSum : FVec Ideal S1024x1024 .f32 :=
  addf (Host.reduceAdd (extf .f32 P bitsLt_bf16_f32) (constant S_ .f32 0x00000000#32) reducesTo_S4x1024x1024_S1024x1024_d0 h_S_)
    (extf .f32 R bitsLt_bf16_f32)
/-- The reference's result of a sum. -/
def refNorm (Y : FVec Ideal S1024x1024 .f32) : FVec Ideal S1024x1024 .f32 :=
  mulf (Host.divf Y (broadcastInDim S1024x1024 ![0, 1] bcast_S1024x1_S1024x1024_0_1 (Host.sqrt (addf (Host.divf
      (broadcastInDim S1024x1 ![0] bcast_S1024_S1024x1_0 (Host.reduceAdd (mulf Y Y) (constant S_ .f32 0x00000000#32) reducesTo_S1024x1024_S1024_d1 h_S_))
      (broadcastInDim S1024x1 ![] bcast_S_S1024x1 (constant S_ .f32 0x44800000#32)))
      (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 (extf .f32 G bitsLt_bf16_f32)))

theorem refSum_apply (i j : Fin 1024) : refSum P R (ix2 i j) = (∑ k, P (ix3 k i j)) + R (ix2 i j) := by
  unfold refSum
  pointwise
theorem refNorm_apply (Y : FVec Ideal S1024x1024 .f32) (i j : Fin 1024) :
    refNorm G Y (ix2 i j) = rowNorm (fun j => Y (ix2 i j)) (fun j => G (ix1 j)) j := by
  unfold refNorm rowNorm
  pointwise
end Reference

end Cert.KernelIdeal.Fused

end
-- ==== Proof.Result.lean ====
/-
Over the extended reals: the result computed on every device is the reference's, entry by entry. The residual and the
scale are whole on every device, and each device's partial sums are the one layer of the whole that its place along `z`
names.
-/
module

public import proofs.«01_k».proof.Proof.Launch
public import proofs.«01_k».proof.Proof.Rows
public import Idealize.ShloMosaic.Lib.Layout

@[expose] public section

noncomputable section

namespace Cert.KernelIdeal.Fused

open Cert.KernelIdeal Cert.KernelIdeal.Gen
open Idealize.ShloMosaic hiding ix1 ix2 ix3
open Idealize.ShloMosaic.TcCoe Idealize.ShloMosaic.ValueIdx

/-! ## The arrays as staged are the arrays -/

section Staged
variable {F : FTy → Type} [FloatOps F] (m : (ℓ : Loc nD τ sig) → Buf (Elt F) ℓ)

theorem pstg_eq (c : Dev nD) : pstg m c = m ((c : Thread nD τ).loc main_arg0) :=
  Memref.read_access_unit_zero (Elt F) main_arg0 (funext fun a => by fin_cases a <;> decide) (fun a => by fin_cases a <;> decide) _
theorem rstg_eq (c : Dev nD) : rstg m c = m ((c : Thread nD τ).loc main_arg1) :=
  Memref.read_access_unit_zero (Elt F) main_arg1 (funext fun a => by fin_cases a <;> decide) (fun a => by fin_cases a <;> decide) _
theorem gstg_eq (c : Dev nD) : gstg m c = m ((c : Thread nD τ).loc main_arg2) :=
  Memref.read_access_unit_zero (Elt F) main_arg2 (funext fun a => by fin_cases a <;> decide) (fun a => by fin_cases a <;> decide) _
end Staged

/-! ## Rows as loaded -/

/-- An index into a band of rows of the one layer, at the band's first row `o`. -/
theorem layer_band_emb {n b h o : ℕ} {off : Fin 3 → ℕ} (ho : off = ![0, o, 0]) {inb} (r : Fin h) (j : Fin b) (hlt : o + r.val < n) :
    (Rect.unit (s := ⟨3, ![1, n, b]⟩) off ![1, h, b] inb).emb (ix3 (n0 := 1) 0 r j) = ix3 0 ⟨o + r.val, hlt⟩ j := by
  subst ho
  funext d
  match d with
  | 0 => rfl
  | 1 => exact Fin.ext (show o + 1 * r.val = o + r.val by omega)
  | 2 => exact Fin.ext (show 0 + 1 * j.val = j.val by omega)

/-- Row `r` of device `c`'s rows in the whole. -/
def rowOf (c : Dev nD) (r : Fin 32) : Fin 1024 := ⟨32 * c.val + r.val, by have : c.val < 32 := c.isLt; omega⟩

variable (m : (ℓ : Loc nD τ sig) → Buf (Elt Ideal) ℓ)

/-- A device's partial sums at a row and a column. -/
abbrev part (c : Dev nD) (i j : Fin 1024) : EReal := pstg m c (ix3 0 i j)

theorem got_apply (c : Dev nD) (k : Fin 3) (r : Fin 32) (j : Fin 1024) : got m c k (ix3 0 r j) = part m (zup c (k.val + 1)) (rowOf c r) j := by
  show rsrC m c ((Rect.unit (s := S3x32x1024) ![k.val, 0, 0] S1x32x1024.size (inbR k)).emb (ix3 0 r j)) = _
  refine (congrArg (rsrC m c) (layer_emb k _)).trans ?_
  show sent m (zup c (k.val + 1)) k (ix3 0 r j) = _
  unfold sent
  rw [pay1_eq]
  refine congrArg (pstg m (zup c (k.val + 1))) (layer_band_emb (off1_eq _ k) r j ?_ |>.trans ?_)
  · have := (tgt (.rs k) (zup c (k.val + 1))).isLt
    have h2 : (tgt (.rs k) (zup c (k.val + 1))).val < 32 := this
    omega
  · have h : tgt (.rs k) (zup c (k.val + 1)) = c := tgt_src (.rs k) c
    congr 1
    exact Fin.ext (show 32 * (tgt (.rs k) (zup c (k.val + 1))).val + r.val = 32 * c.val + r.val by rw [h])

theorem base_apply (c : Dev nD) (r : Fin 32) (j : Fin 1024) : base m c (ix2 r j) = part m c (rowOf c r) j + rstg m c (ix2 (rowOf c r) j) := by
  have hc : c.val < 32 := c.isLt
  have hr := r.isLt
  unfold base
  refine (pay4_apply _ _ r j).trans (congrArg₂ (· + ·) ?_ ?_)
  · exact congrArg (pstg m c) (layer_band_emb (off2_eq c) r j (by omega))
  · exact congrArg (rstg m c) (band_emb' (off3_eq c) (ix2 r j) (show 32 * c.val + r.val < 1024 by omega))

theorem gam_apply (c : Dev nD) (j : Fin 1024) : gam m c (ix1 j) = gstg m c (ix1 j) := by
  show gstg m c ((Rect.unit (s := S1024) ![0] S1024.size inb_S1024_S1024_0).emb (ix1 j)) = _
  refine congrArg (gstg m c) (funext fun d => ?_)
  match d with
  | 0 => exact Fin.ext (show 0 + 1 * j.val = j.val by omega)

/-- Device `c`'s sums: its own rows, the residual's, and those of the three other devices along `z`. -/
def sums (c : Dev nD) (i j : Fin 1024) : EReal :=
  part m c i j + rstg m c (ix2 i j) + part m (zup c 1) i j + part m (zup c 2) i j + part m (zup c 3) i j

theorem normF_apply (c : Dev nD) (r : Fin 32) (j : Fin 1024) :
    normF m c (ix2 r j) = rowNorm (fun j => sums m c (rowOf c r) j) (fun j => gstg m c (ix1 j)) j := by
  unfold normF
  refine (pay6_apply _ _ _ r j).trans ?_
  have hy : ∀ j, k0_pay5 (base m c) (got m c 0) (got m c 1) (ix2 r j) + got m c 2 (ix3 0 r j) = sums m c (rowOf c r) j := fun j => by
    refine (congrArg (· + got m c 2 (ix3 0 r j)) (pay5_apply _ _ _ r j)).trans ?_
    exact congrArg₂ (· + ·) (congrArg₂ (· + ·) (congrArg₂ (· + ·) (base_apply m c r j) (got_apply m c 0 r j)) (got_apply m c 1 r j)) (got_apply m c 2 r j)
  exact congrArg₂ (fun y g => rowNorm y g j) (funext hy) (funext fun j => gam_apply m c j)

/-- Over the extended reals the rows as sent are the rows as computed. -/
theorem wide_normT (c : Dev nD) (x : S32x1024.Idx) : wide (normT m c x) = normF m c x := by
  show normT m c x = _
  unfold normT normF
  rw [pay7_eq]

theorem outC_ideal (c : Dev nD) (i : S1024x1024.Idx) : outC m c i = normF m (owner (i 0)) (ix2 (inRow (n := 1024) (i 0)) (i 1)) := by
  unfold outC
  split
  next h => rw [h]
  next => exact wide_normT m _ _

theorem rowOf_owner (i : Fin 1024) : rowOf (owner i) (inRow (n := 1024) i) = i :=
  Fin.ext (show 32 * (i.val / 32) + i.val % 32 = i.val by omega)

/-! ## Against the whole arrays -/

variable (P : (⟨Cert.ReferenceIdeal.S4x1024x1024, .bf16⟩ : BufTy).Contents (Elt Ideal))
  (R : (⟨Cert.ReferenceIdeal.S1024x1024, .bf16⟩ : BufTy).Contents (Elt Ideal))
  (G : (⟨Cert.ReferenceIdeal.S1024, .bf16⟩ : BufTy).Contents (Elt Ideal))

/-- The device's place along `z`. -/
def zOf (c : Dev nD) : Fin 4 := ⟨c.val % 4, Nat.mod_lt _ (by decide)⟩

/-- What each device is launched with, of the whole arrays. -/
def Cut : Prop := ∀ c : Dev nD,
  m ((c : Thread nD τ).loc main_arg0) = Layout.blockN ⟨3, ![1, 1024, 1024]⟩ ⟨3, ![4, 1024, 1024]⟩ (Layout.meshBlock [2, 4, 4] ![[2], [], []] c) P
    ∧ m ((c : Thread nD τ).loc main_arg1) = R ∧ m ((c : Thread nD τ).loc main_arg2) = G

variable {m P R G}

theorem part_eq (h : Cut m P R G) (c : Dev nD) (i j : Fin 1024) : part m c i j = P (ix3 (zOf c) i j) := by
  unfold part
  rw [pstg_eq, (h c).1]
  refine congrArg P (funext fun d => Fin.ext ?_)
  match d with
  | 0 => exact (show (c.val / 1 % 4 * 1 + 0) * 1 + 0 = c.val % 4 by omega)
  | 1 => exact (show 0 * 1024 + i.val = i.val by omega)
  | 2 => exact (show 0 * 1024 + j.val = j.val by omega)

/-- The four places along `z`, from any one of them on. -/
theorem sum_along (f : Fin 4 → EReal) (c : Dev nD) (R : EReal) :
    f (zOf c) + R + f (zOf (zup c 1)) + f (zOf (zup c 2)) + f (zOf (zup c 3)) = (∑ k, f k) + R := by
  have hz : ∀ k : Fin 4, zOf (zup c k.val) = zOf c + k := fun k =>
    Fin.ext (show (4 * (c.val / 4) + (c.val % 4 + k.val) % 4) % 4 = (c.val % 4 + k.val) % 4 by omega)
  rw [show zOf (zup c 1) = zOf c + 1 from hz 1, show zOf (zup c 2) = zOf c + 2 from hz 2, show zOf (zup c 3) = zOf c + 3 from hz 3]
  generalize zOf c = z
  rw [Fin.sum_univ_four]
  match z with
  | 0 => show f 0 + R + f 1 + f 2 + f 3 = _; ac_rfl
  | 1 => show f 1 + R + f 2 + f 3 + f 0 = _; ac_rfl
  | 2 => show f 2 + R + f 3 + f 0 + f 1 = _; ac_rfl
  | 3 => show f 3 + R + f 0 + f 1 + f 2 = _; ac_rfl

theorem sums_eq (h : Cut m P R G) (c : Dev nD) (i j : Fin 1024) : sums m c i j = refSum P R (ix2 i j) := by
  unfold sums
  rw [part_eq h, part_eq h, part_eq h, part_eq h, rstg_eq, (h c).2.1]
  exact (sum_along (fun k => P (ix3 k i j)) c _).trans (refSum_apply P R i j).symm

/-- On every device the result computed is the reference's. -/
theorem outC_eq (h : Cut m P R G) (c : Dev nD) : outC m c = refNorm G (refSum P R) := by
  funext i
  rw [outC_ideal]
  refine (normF_apply m _ _ _).trans ?_
  refine Eq.trans ?_ ((refNorm_apply G (refSum P R) (i 0) (i 1)).symm.trans (congrArg _ (ValueIdx.eq_ix2 i).symm))
  refine congrArg₂ (fun y g => rowNorm y g (i 1)) (funext fun j => (sums_eq h _ _ j).trans
    (congrArg (fun r => refSum P R (ix2 r j)) (rowOf_owner (i 0)))) (funext fun j => ?_)
  rw [gstg_eq, (h _).2.2]
  rfl

end Cert.KernelIdeal.Fused

end
-- ==== Proof.Claims.lean ====
/-
The five claims, each from the run of the kernel's program (`run_main`) or of the reference's.
-/
module

public import proofs.«01_k».proof.Defs
public import proofs.«01_k».proof.Proof.Result
public import proofs.«01_k».proof.Proof.Gen.Kernel
public import Idealize.ShloMosaic.Adequacy

@[expose] public section

noncomputable section

namespace Cert.KernelIdeal.Fused

open Cert.KernelIdeal Cert.KernelIdeal.Gen
open Idealize.ShloMosaic Idealize.SL.Sem Idealize.ShloMosaic.TcCoe

/-- The kernel's program terminates on all devices, its arguments as launched and every semaphore at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c =>
      ⟨(h.1 c (0 : Fin 4)).trans (finalA_in m ρ c 0 rfl), (h.1 c (1 : Fin 4)).trans (finalA_in m ρ c 1 rfl),
        (h.1 c (2 : Fin 4)).trans (finalA_in m ρ c 2 rfl)⟩, h.2⟩) (run_main m ρ)

/-- The two programs are the same text: their kernels' tables, -/
theorem same_kernel {F : FTy → Type} [FloatOps F] : Cert.Kernel.defs₀ (F := F) = Cert.KernelIdeal.defs₀ (F := F) := by
  refine congrArg (Defs.onTc (nD := Cert.Kernel.nD) (τ := Cert.Kernel.τ) (sig := Cert.Kernel.sig)) (funext fun l => funext fun a => ?_)
  match l, a with
  | 0, (t, s) => rfl
/-- and so the tables with the launch in them. -/
theorem same_text {F : FTy → Type} [FloatOps F] : Cert.Kernel.defs (F := F) = Cert.KernelIdeal.defs (F := F) :=
  congrArg (Pipeline.defs Cert.Kernel.pcfgs) same_kernel

/-- So one run serves both frames. -/
theorem frame_kernel : Cert.quiescent_Kernel := fun m ρ _ => by
  rw [same_text]
  exact frame (F := Bits) m ρ
theorem frame_kernelIdeal : Cert.quiescent_KernelIdeal := fun m ρ _ => frame (F := Ideal) m ρ

/-- The reference's program does too; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's. -/
theorem algebraic : Cert.algebraic_KernelIdeal_ReferenceIdeal := fun m ρ m' ρ' _ h =>
  ⟨refNorm (m' (((0 : Dev Cert.ReferenceIdeal.nD).tc : Thread Cert.ReferenceIdeal.nD Cert.ReferenceIdeal.τ).loc Cert.ReferenceIdeal.main_arg2))
      (refSum (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))),
    (θ_run Cert.KernelIdeal.defs _ _).mono (fun _ hr c =>
        ⟨((hr.1 c (3 : Fin 4)).trans (finalA_out m ρ c)).trans (outC_eq h c),
          (hr.1 c (0 : Fin 4)).trans (finalA_in m ρ c 0 rfl), (hr.1 c (1 : Fin 4)).trans (finalA_in m ρ c 1 rfl),
          (hr.1 c (2 : Fin 4)).trans (finalA_in m ρ c 2 rfl)⟩) (run_main (F := Ideal) m ρ),
    (θ_run Cert.ReferenceIdeal.defs _ _).mono (fun _ hr => hr 0) (Cert.ReferenceIdeal.Value.run (F := Ideal) m' ρ')⟩

end Cert.KernelIdeal.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Fused.frame_kernel, Cert.KernelIdeal.Fused.frame_kernelIdeal, Cert.KernelIdeal.Fused.frame_referenceIdeal, trivial,
  Cert.KernelIdeal.Fused.algebraic⟩

end Cert.Proof

end
